-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x32768 : Shape := ⟨2, ![128, 32768]⟩
abbrev S2x8x2048 : Shape := ⟨3, ![2, 8, 2048]⟩
abbrev S_ : Shape := ⟨0, ![]⟩
abbrev S16 : Shape := ⟨1, ![16]⟩
abbrev S1x8x2048 : Shape := ⟨3, ![1, 8, 2048]⟩
abbrev S8x2048 : Shape := ⟨2, ![8, 2048]⟩
abbrev S1x1x16 : Shape := ⟨3, ![1, 1, 16]⟩

abbrev nBuf : Table → Nat
  | .hbm => 3
  | .local .scVector .vmem => 3
  | _ => 0

abbrev bufTy : (tb : Table) → Fin (nBuf tb) → BufTy
  | .hbm, ⟨0, _⟩ => ⟨S128x32768, .f32⟩
  | .hbm, ⟨1, _⟩ => ⟨S128x32768, .f32⟩
  | .hbm, ⟨2, _⟩ => ⟨S128x32768, .f32⟩
  | .local .scVector .vmem, ⟨0, _⟩ => ⟨S2x8x2048, .f32⟩
  | .local .scVector .vmem, ⟨1, _⟩ => ⟨S2x8x2048, .f32⟩
  | .local .scVector .vmem, ⟨2, _⟩ => ⟨S2x8x2048, .f32⟩
  | _, _ => ⟨S128x32768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_14 : BitVec 32) : Fin 2 → Nat :=
  let arg1 : BitVec 32 := BitVec.ofNat 32 (i 1).val
  let c2_i32 : BitVec 32 := 2#32
  let v3 : BitVec 32 := Scalar.muli arg1 c2_i32
  let arg0 : BitVec 32 := BitVec.ofNat 32 (i 0).val
  let v4 : BitVec 32 := Scalar.addi v3 arg0
  let c0_i32 : BitVec 32 := 0#32
  let v6 : BitVec 1 := Scalar.cmpi .sgt v4 c0_i32
  let v7 : BitVec 32 := Scalar.extui v6
  let c0_i32_4 : BitVec 32 := 0#32
  let v8 : BitVec 1 := Scalar.cmpi .slt v4 c0_i32_4
  let v9 : BitVec 32 := Scalar.extui v8
  let v10 : BitVec 32 := Scalar.subi v7 v9
  let c2_i32_3 : BitVec 32 := 2#32
  let c0_i32_5 : BitVec 32 := 0#32
  let v11 : BitVec 1 := Scalar.cmpi .sgt c2_i32_3 c0_i32_5
  let v12 : BitVec 32 := Scalar.extui v11
  let c0_i32_6 : BitVec 32 := 0#32
  let v13 : BitVec 1 := Scalar.cmpi .slt c2_i32_3 c0_i32_6
  let v14 : BitVec 32 := Scalar.extui v13
  let v15 : BitVec 32 := Scalar.subi v12 v14
  let v16 : BitVec 1 := Scalar.cmpi .ne v10 v15
  let v17 : BitVec 32 := Scalar.remsi v4 c2_i32_3
  let c0_i32_7 : BitVec 32 := 0#32
  let v18 : BitVec 1 := Scalar.cmpi .ne v17 c0_i32_7
  let v19 : BitVec 1 := Scalar.andi v16 v18
  let v5 : BitVec 32 := Scalar.divsi v4 c2_i32_3
  let c1_i32 : BitVec 32 := 1#32
  let v20 : BitVec 32 := Scalar.subi v5 c1_i32
  let v21 : BitVec 32 := Scalar.select v19 v20 v5
  let c8_i32 : BitVec 32 := 8#32
  let v22 : BitVec 32 := Scalar.muli v21 c8_i32
  let c2_i32_8 : BitVec 32 := 2#32
  let c0_i32_9 : BitVec 32 := 0#32
  let v23 : BitVec 1 := Scalar.cmpi .eq c2_i32_8 c0_i32_9
  let c1_i32_10 : BitVec 32 := 1#32
  let v24 : BitVec 32 := Scalar.select v23 c1_i32_10 c2_i32_8
  let v25 : BitVec 32 := Scalar.remsi v4 v24
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let c0_i32_11 : BitVec 32 := 0#32
  let v26 : BitVec 1 := Scalar.cmpi .ne v25 c0_i32_11
  let v30 : BitVec 1 := Scalar.andi v29 v26
  let v31 : BitVec 32 := Scalar.addi v25 v24
  let v32 : BitVec 32 := Scalar.select v30 v31 v25
  let c16384_i32 : BitVec 32 := 16384#32
  let v33 : BitVec 32 := Scalar.muli v32 c16384_i32
  let v34 : BitVec 32 := Scalar.addi v33 c0_i32_14
  ![v22.toNat, v34.toNat]
@[reducible] def k0_t1_loop : Scf.Loop 32 :=
  let c0_i32_48 : BitVec 32 := 0#32
  let c128_i32 : BitVec 32 := 128#32
  let v74 : BitVec 32 := Scalar.addi c0_i32_48 c128_i32
  let c1_i32_49 : BitVec 32 := 1#32
  ⟨c0_i32_48, v74, c1_i32_49⟩
def k0_off2 (k0_t1 : Fin k0_t1_loop.trips) : Fin 3 → Nat :=
  let c0_i32_591 : BitVec 32 := 0#32
  let v412 : Index := Scalar.indexCast c0_i32_591
  let c0_i32_592 : BitVec 32 := 0#32
  let v413 : Index := Scalar.indexCast c0_i32_592
  let c0_i32_590 : BitVec 32 := 0#32
  let c0_i32_48 : BitVec 32 := 0#32
  let c1_i32_49 : BitVec 32 := 1#32
  let arg12 : BitVec 32 := Scf.iv c0_i32_48 c1_i32_49 k0_t1
  let c16_i32 : BitVec 32 := 16#32
  let v410 : BitVec 32 := Scalar.muli arg12 c16_i32
  let v411 : BitVec 32 := Scalar.addi c0_i32_590 v410
  let v414 : Index := Scalar.indexCast v411
  ![0, 0, v414.toNat]
@[reducible] def k0_t2_loop : Scf.Loop 32 :=
  let c0_i32_52 : BitVec 32 := 0#32
  let c128_i32_53 : BitVec 32 := 128#32
  let v75 : BitVec 32 := Scalar.addi c0_i32_52 c128_i32_53
  let c1_i32_54 : BitVec 32 := 1#32
  ⟨c0_i32_52, v75, c1_i32_54⟩
def k0_off3 (k0_t2 : Fin k0_t2_loop.trips) : Fin 3 → Nat :=
  let c0_i32_591 : BitVec 32 := 0#32
  let v412 : Index := Scalar.indexCast c0_i32_591
  let c1_i32_592 : BitVec 32 := 1#32
  let v413 : Index := Scalar.indexCast c1_i32_592
  let c0_i32_590 : BitVec 32 := 0#32
  let c0_i32_52 : BitVec 32 := 0#32
  let c1_i32_54 : BitVec 32 := 1#32
  let arg12 : BitVec 32 := Scf.iv c0_i32_52 c1_i32_54 k0_t2
  let c16_i32 : BitVec 32 := 16#32
  let v410 : BitVec 32 := Scalar.muli arg12 c16_i32
  let v411 : BitVec 32 := Scalar.addi c0_i32_590 v410
  let v414 : Index := Scalar.indexCast v411
  ![0, 1, v414.toNat]
@[reducible] def k0_t3_loop : Scf.Loop 32 :=
  let c0_i32_57 : BitVec 32 := 0#32
  let c128_i32_58 : BitVec 32 := 128#32
  let v76 : BitVec 32 := Scalar.addi c0_i32_57 c128_i32_58
  let c1_i32_59 : BitVec 32 := 1#32
  ⟨c0_i32_57, v76, c1_i32_59⟩
def k0_off4 (k0_t3 : Fin k0_t3_loop.trips) : Fin 3 → Nat :=
  let c0_i32_591 : BitVec 32 := 0#32
  let v412 : Index := Scalar.indexCast c0_i32_591
  let c2_i32_592 : BitVec 32 := 2#32
  let v413 : Index := Scalar.indexCast c2_i32_592
  let c0_i32_590 : BitVec 32 := 0#32
  let c0_i32_57 : BitVec 32 := 0#32
  let c1_i32_59 : BitVec 32 := 1#32
  let arg12 : BitVec 32 := Scf.iv c0_i32_57 c1_i32_59 k0_t3
  let c16_i32 : BitVec 32 := 16#32
  let v410 : BitVec 32 := Scalar.muli arg12 c16_i32
  let v411 : BitVec 32 := Scalar.addi c0_i32_590 v410
  let v414 : Index := Scalar.indexCast v411
  ![0, 2, v414.toNat]
@[reducible] def k0_t4_loop : Scf.Loop 32 :=
  let c0_i32_62 : BitVec 32 := 0#32
  let c128_i32_63 : BitVec 32 := 128#32
  let v77 : BitVec 32 := Scalar.addi c0_i32_62 c128_i32_63
  let c1_i32_64 : BitVec 32 := 1#32
  ⟨c0_i32_62, v77, c1_i32_64⟩
def k0_off5 (k0_t4 : Fin k0_t4_loop.trips) : Fin 3 → Nat :=
  let c0_i32_591 : BitVec 32 := 0#32
  let v412 : Index := Scalar.indexCast c0_i32_591
  let c3_i32 : BitVec 32 := 3#32
  let v413 : Index := Scalar.indexCast c3_i32
  let c0_i32_590 : BitVec 32 := 0#32
  let c0_i32_62 : BitVec 32 := 0#32
  let c1_i32_64 : BitVec 32 := 1#32
  let arg12 : BitVec 32 := Scf.iv c0_i32_62 c1_i32_64 k0_t4
  let c16_i32 : BitVec 32 := 16#32
  let v410 : BitVec 32 := Scalar.muli arg12 c16_i32
  let v411 : BitVec 32 := Scalar.addi c0_i32_590 v410
  let v414 : Index := Scalar.indexCast v411
  ![0, 3, v414.toNat]
@[reducible] def k0_t5_loop : Scf.Loop 32 :=
  let c0_i32_67 : BitVec 32 := 0#32
  let c128_i32_68 : BitVec 32 := 128#32
  let v78 : BitVec 32 := Scalar.addi c0_i32_67 c128_i32_68
  let c1_i32_69 : BitVec 32 := 1#32
  ⟨c0_i32_67, v78, c1_i32_69⟩
def k0_off6 (k0_t5 : Fin k0_t5_loop.trips) : Fin 3 → Nat :=
  let c0_i32_591 : BitVec 32 := 0#32
  let v412 : Index := Scalar.indexCast c0_i32_591
  let c4_i32 : BitVec 32 := 4#32
  let v413 : Index := Scalar.indexCast c4_i32
  let c0_i32_590 : BitVec 32 := 0#32
  let c0_i32_67 : BitVec 32 := 0#32
  let c1_i32_69 : BitVec 32 := 1#32
  let arg12 : BitVec 32 := Scf.iv c0_i32_67 c1_i32_69 k0_t5
  let c16_i32 : BitVec 32 := 16#32
  let v410 : BitVec 32 := Scalar.muli arg12 c16_i32
  let v411 : BitVec 32 := Scalar.addi c0_i32_590 v410
  let v414 : Index := Scalar.indexCast v411
  ![0, 4, v414.toNat]
@[reducible] def k0_t6_loop : Scf.Loop 32 :=
  let c0_i32_72 : BitVec 32 := 0#32
  let c128_i32_73 : BitVec 32 := 128#32
  let v79 : BitVec 32 := Scalar.addi c0_i32_72 c128_i32_73
  let c1_i32_74 : BitVec 32 := 1#32
  ⟨c0_i32_72, v79, c1_i32_74⟩
def k0_off7 (k0_t6 : Fin k0_t6_loop.trips) : Fin 3 → Nat :=
  let c0_i32_591 : BitVec 32 := 0#32
  let v412 : Index := Scalar.indexCast c0_i32_591
  let c5_i32 : BitVec 32 := 5#32
  let v413 : Index := Scalar.indexCast c5_i32
  let c0_i32_590 : BitVec 32 := 0#32
  let c0_i32_72 : BitVec 32 := 0#32
  let c1_i32_74 : BitVec 32 := 1#32
  let arg12 : BitVec 32 := Scf.iv c0_i32_72 c1_i32_74 k0_t6
  let c16_i32 : BitVec 32 := 16#32
  let v410 : BitVec 32 := Scalar.muli arg12 c16_i32
  let v411 : BitVec 32 := Scalar.addi c0_i32_590 v410
  let v414 : Index := Scalar.indexCast v411
  ![0, 5, v414.toNat]
@[reducible] def k0_t7_loop : Scf.Loop 32 :=
  let c0_i32_77 : BitVec 32 := 0#32
  let c128_i32_78 : BitVec 32 := 128#32
  let v80 : BitVec 32 := Scalar.addi c0_i32_77 c128_i32_78
  let c1_i32_79 : BitVec 32 := 1#32
  ⟨c0_i32_77, v80, c1_i32_79⟩
def k0_off8 (k0_t7 : Fin k0_t7_loop.trips) : Fin 3 → Nat :=
  let c0_i32_591 : BitVec 32 := 0#32
  let v412 : Index := Scalar.indexCast c0_i32_591
  let c6_i32 : BitVec 32 := 6#32
  let v413 : Index := Scalar.indexCast c6_i32
  let c0_i32_590 : BitVec 32 := 0#32
  let c0_i32_77 : BitVec 32 := 0#32
  let c1_i32_79 : BitVec 32 := 1#32
  let arg12 : BitVec 32 := Scf.iv c0_i32_77 c1_i32_79 k0_t7
  let c16_i32 : BitVec 32 := 16#32
  let v410 : BitVec 32 := Scalar.muli arg12 c16_i32
  let v411 : BitVec 32 := Scalar.addi c0_i32_590 v410
  let v414 : Index := Scalar.indexCast v411
  ![0, 6, v414.toNat]
@[reducible] def k0_t8_loop : Scf.Loop 32 :=
  let c0_i32_82 : BitVec 32 := 0#32
  let c128_i32_83 : BitVec 32 := 128#32
  let v81 : BitVec 32 := Scalar.addi c0_i32_82 c128_i32_83
  let c1_i32_84 : BitVec 32 := 1#32
  ⟨c0_i32_82, v81, c1_i32_84⟩
def k0_off9 (k0_t8 : Fin k0_t8_loop.trips) : Fin 3 → Nat :=
  let c0_i32_591 : BitVec 32 := 0#32
  let v412 : Index := Scalar.indexCast c0_i32_591
  let c7_i32 : BitVec 32 := 7#32
  let v413 : Index := Scalar.indexCast c7_i32
  let c0_i32_590 : BitVec 32 := 0#32
  let c0_i32_82 : BitVec 32 := 0#32
  let c1_i32_84 : BitVec 32 := 1#32
  let arg12 : BitVec 32 := Scf.iv c0_i32_82 c1_i32_84 k0_t8
  let c16_i32 : BitVec 32 := 16#32
  let v410 : BitVec 32 := Scalar.muli arg12 c16_i32
  let v411 : BitVec 32 := Scalar.addi c0_i32_590 v410
  let v414 : Index := Scalar.indexCast v411
  ![0, 7, v414.toNat]
@[reducible] def k0_t9_loop : Scf.Loop 32 :=
  let c0_i32_114 : BitVec 32 := 0#32
  let c128_i32_115 : BitVec 32 := 128#32
  let v115 : BitVec 32 := Scalar.addi c0_i32_114 c128_i32_115
  let c1_i32_116 : BitVec 32 := 1#32
  ⟨c0_i32_114, v115, c1_i32_116⟩
def k0_off10 (k0_t9 : Fin k0_t9_loop.trips) : Fin 3 → Nat :=
  let c1_i32_591 : BitVec 32 := 1#32
  let v412 : Index := Scalar.indexCast c1_i32_591
  let c0_i32_592 : BitVec 32 := 0#32
  let v413 : Index := Scalar.indexCast c0_i32_592
  let c0_i32_590 : BitVec 32 := 0#32
  let c0_i32_114 : BitVec 32 := 0#32
  let c1_i32_116 : BitVec 32 := 1#32
  let arg12 : BitVec 32 := Scf.iv c0_i32_114 c1_i32_116 k0_t9
  let c16_i32 : BitVec 32 := 16#32
  let v410 : BitVec 32 := Scalar.muli arg12 c16_i32
  let v411 : BitVec 32 := Scalar.addi c0_i32_590 v410
  let v414 : Index := Scalar.indexCast v411
  ![1, 0, v414.toNat]
@[reducible] def k0_t10_loop : Scf.Loop 32 :=
  let c0_i32_119 : BitVec 32 := 0#32
  let c128_i32_120 : BitVec 32 := 128#32
  let v116 : BitVec 32 := Scalar.addi c0_i32_119 c128_i32_120
  let c1_i32_121 : BitVec 32 := 1#32
  ⟨c0_i32_119, v116, c1_i32_121⟩
def k0_off11 (k0_t10 : Fin k0_t10_loop.trips) : Fin 3 → Nat :=
  let c1_i32_591 : BitVec 32 := 1#32
  let v412 : Index := Scalar.indexCast c1_i32_591
  let c1_i32_592 : BitVec 32 := 1#32
  let v413 : Index := Scalar.indexCast c1_i32_592
  let c0_i32_590 : BitVec 32 := 0#32
  let c0_i32_119 : BitVec 32 := 0#32
  let c1_i32_121 : BitVec 32 := 1#32
  let arg12 : BitVec 32 := Scf.iv c0_i32_119 c1_i32_121 k0_t10
  let c16_i32 : BitVec 32 := 16#32
  let v410 : BitVec 32 := Scalar.muli arg12 c16_i32
  let v411 : BitVec 32 := Scalar.addi c0_i32_590 v410
  let v414 : Index := Scalar.indexCast v411
  ![1, 1, v414.toNat]
@[reducible] def k0_t11_loop : Scf.Loop 32 :=
  let c0_i32_124 : BitVec 32 := 0#32
  let c128_i32_125 : BitVec 32 := 128#32
  let v117 : BitVec 32 := Scalar.addi c0_i32_124 c128_i32_125
  let c1_i32_126 : BitVec 32 := 1#32
  ⟨c0_i32_124, v117, c1_i32_126⟩
def k0_off12 (k0_t11 : Fin k0_t11_loop.trips) : Fin 3 → Nat :=
  let c1_i32_591 : BitVec 32 := 1#32
  let v412 : Index := Scalar.indexCast c1_i32_591
  let c2_i32_592 : BitVec 32 := 2#32
  let v413 : Index := Scalar.indexCast c2_i32_592
  let c0_i32_590 : BitVec 32 := 0#32
  let c0_i32_124 : BitVec 32 := 0#32
  let c1_i32_126 : BitVec 32 := 1#32
  let arg12 : BitVec 32 := Scf.iv c0_i32_124 c1_i32_126 k0_t11
  let c16_i32 : BitVec 32 := 16#32
  let v410 : BitVec 32 := Scalar.muli arg12 c16_i32
  let v411 : BitVec 32 := Scalar.addi c0_i32_590 v410
  let v414 : Index := Scalar.indexCast v411
  ![1, 2, v414.toNat]
@[reducible] def k0_t12_loop : Scf.Loop 32 :=
  let c0_i32_129 : BitVec 32 := 0#32
  let c128_i32_130 : BitVec 32 := 128#32
  let v118 : BitVec 32 := Scalar.addi c0_i32_129 c128_i32_130
  let c1_i32_131 : BitVec 32 := 1#32
  ⟨c0_i32_129, v118, c1_i32_131⟩
def k0_off13 (k0_t12 : Fin k0_t12_loop.trips) : Fin 3 → Nat :=
  let c1_i32_591 : BitVec 32 := 1#32
  let v412 : Index := Scalar.indexCast c1_i32_591
  let c3_i32 : BitVec 32 := 3#32
  let v413 : Index := Scalar.indexCast c3_i32
  let c0_i32_590 : BitVec 32 := 0#32
  let c0_i32_129 : BitVec 32 := 0#32
  let c1_i32_131 : BitVec 32 := 1#32
  let arg12 : BitVec 32 := Scf.iv c0_i32_129 c1_i32_131 k0_t12
  let c16_i32 : BitVec 32 := 16#32
  let v410 : BitVec 32 := Scalar.muli arg12 c16_i32
  let v411 : BitVec 32 := Scalar.addi c0_i32_590 v410
  let v414 : Index := Scalar.indexCast v411
  ![1, 3, v414.toNat]
@[reducible] def k0_t13_loop : Scf.Loop 32 :=
  let c0_i32_134 : BitVec 32 := 0#32
  let c128_i32_135 : BitVec 32 := 128#32
  let v119 : BitVec 32 := Scalar.addi c0_i32_134 c128_i32_135
  let c1_i32_136 : BitVec 32 := 1#32
  ⟨c0_i32_134, v119, c1_i32_136⟩
def k0_off14 (k0_t13 : Fin k0_t13_loop.trips) : Fin 3 → Nat :=
  let c1_i32_591 : BitVec 32 := 1#32
  let v412 : Index := Scalar.indexCast c1_i32_591
  let c4_i32 : BitVec 32 := 4#32
  let v413 : Index := Scalar.indexCast c4_i32
  let c0_i32_590 : BitVec 32 := 0#32
  let c0_i32_134 : BitVec 32 := 0#32
  let c1_i32_136 : BitVec 32 := 1#32
  let arg12 : BitVec 32 := Scf.iv c0_i32_134 c1_i32_136 k0_t13
  let c16_i32 : BitVec 32 := 16#32
  let v410 : BitVec 32 := Scalar.muli arg12 c16_i32
  let v411 : BitVec 32 := Scalar.addi c0_i32_590 v410
  let v414 : Index := Scalar.indexCast v411
  ![1, 4, v414.toNat]
@[reducible] def k0_t14_loop : Scf.Loop 32 :=
  let c0_i32_139 : BitVec 32 := 0#32
  let c128_i32_140 : BitVec 32 := 128#32
  let v120 : BitVec 32 := Scalar.addi c0_i32_139 c128_i32_140
  let c1_i32_141 : BitVec 32 := 1#32
  ⟨c0_i32_139, v120, c1_i32_141⟩
def k0_off15 (k0_t14 : Fin k0_t14_loop.trips) : Fin 3 → Nat :=
  let c1_i32_591 : BitVec 32 := 1#32
  let v412 : Index := Scalar.indexCast c1_i32_591
  let c5_i32 : BitVec 32 := 5#32
  let v413 : Index := Scalar.indexCast c5_i32
  let c0_i32_590 : BitVec 32 := 0#32
  let c0_i32_139 : BitVec 32 := 0#32
  let c1_i32_141 : BitVec 32 := 1#32
  let arg12 : BitVec 32 := Scf.iv c0_i32_139 c1_i32_141 k0_t14
  let c16_i32 : BitVec 32 := 16#32
  let v410 : BitVec 32 := Scalar.muli arg12 c16_i32
  let v411 : BitVec 32 := Scalar.addi c0_i32_590 v410
  let v414 : Index := Scalar.indexCast v411
  ![1, 5, v414.toNat]
@[reducible] def k0_t15_loop : Scf.Loop 32 :=
  let c0_i32_144 : BitVec 32 := 0#32
  let c128_i32_145 : BitVec 32 := 128#32
  let v121 : BitVec 32 := Scalar.addi c0_i32_144 c128_i32_145
  let c1_i32_146 : BitVec 32 := 1#32
  ⟨c0_i32_144, v121, c1_i32_146⟩
def k0_off16 (k0_t15 : Fin k0_t15_loop.trips) : Fin 3 → Nat :=
  let c1_i32_591 : BitVec 32 := 1#32
  let v412 : Index := Scalar.indexCast c1_i32_591
  let c6_i32 : BitVec 32 := 6#32
  let v413 : Index := Scalar.indexCast c6_i32
  let c0_i32_590 : BitVec 32 := 0#32
  let c0_i32_144 : BitVec 32 := 0#32
  let c1_i32_146 : BitVec 32 := 1#32
  let arg12 : BitVec 32 := Scf.iv c0_i32_144 c1_i32_146 k0_t15
  let c16_i32 : BitVec 32 := 16#32
  let v410 : BitVec 32 := Scalar.muli arg12 c16_i32
  let v411 : BitVec 32 := Scalar.addi c0_i32_590 v410
  let v414 : Index := Scalar.indexCast v411
  ![1, 6, v414.toNat]
@[reducible] def k0_t16_loop : Scf.Loop 32 :=
  let c0_i32_149 : BitVec 32 := 0#32
  let c128_i32_150 : BitVec 32 := 128#32
  let v122 : BitVec 32 := Scalar.addi c0_i32_149 c128_i32_150
  let c1_i32_151 : BitVec 32 := 1#32
  ⟨c0_i32_149, v122, c1_i32_151⟩
def k0_off17 (k0_t16 : Fin k0_t16_loop.trips) : Fin 3 → Nat :=
  let c1_i32_591 : BitVec 32 := 1#32
  let v412 : Index := Scalar.indexCast c1_i32_591
  let c7_i32 : BitVec 32 := 7#32
  let v413 : Index := Scalar.indexCast c7_i32
  let c0_i32_590 : BitVec 32 := 0#32
  let c0_i32_149 : BitVec 32 := 0#32
  let c1_i32_151 : BitVec 32 := 1#32
  let arg12 : BitVec 32 := Scf.iv c0_i32_149 c1_i32_151 k0_t16
  let c16_i32 : BitVec 32 := 16#32
  let v410 : BitVec 32 := Scalar.muli arg12 c16_i32
  let v411 : BitVec 32 := Scalar.addi c0_i32_590 v410
  let v414 : Index := Scalar.indexCast v411
  ![1, 7, v414.toNat]
@[reducible] def k0_t17_loop : Scf.Loop 32 :=
  let c0_i32_186 : BitVec 32 := 0#32
  let c128_i32_187 : BitVec 32 := 128#32
  let v162 : BitVec 32 := Scalar.addi c0_i32_186 c128_i32_187
  let c1_i32_188 : BitVec 32 := 1#32
  ⟨c0_i32_186, v162, c1_i32_188⟩
def k0_off18 (k0_t17 : Fin k0_t17_loop.trips) : Fin 3 → Nat :=
  let c0_i32_591 : BitVec 32 := 0#32
  let v412 : Index := Scalar.indexCast c0_i32_591
  let c0_i32_592 : BitVec 32 := 0#32
  let v413 : Index := Scalar.indexCast c0_i32_592
  let c0_i32_590 : BitVec 32 := 0#32
  let c0_i32_186 : BitVec 32 := 0#32
  let c1_i32_188 : BitVec 32 := 1#32
  let arg12 : BitVec 32 := Scf.iv c0_i32_186 c1_i32_188 k0_t17
  let c16_i32 : BitVec 32 := 16#32
  let v410 : BitVec 32 := Scalar.muli arg12 c16_i32
  let v411 : BitVec 32 := Scalar.addi c0_i32_590 v410
  let v414 : Index := Scalar.indexCast v411
  ![0, 0, v414.toNat]
@[reducible] def k0_t18_loop : Scf.Loop 32 :=
  let c0_i32_191 : BitVec 32 := 0#32
  let c128_i32_192 : BitVec 32 := 128#32
  let v163 : BitVec 32 := Scalar.addi c0_i32_191 c128_i32_192
  let c1_i32_193 : BitVec 32 := 1#32
  ⟨c0_i32_191, v163, c1_i32_193⟩
def k0_off19 (k0_t18 : Fin k0_t18_loop.trips) : Fin 3 → Nat :=
  let c0_i32_591 : BitVec 32 := 0#32
  let v412 : Index := Scalar.indexCast c0_i32_591
  let c1_i32_592 : BitVec 32 := 1#32
  let v413 : Index := Scalar.indexCast c1_i32_592
  let c0_i32_590 : BitVec 32 := 0#32
  let c0_i32_191 : BitVec 32 := 0#32
  let c1_i32_193 : BitVec 32 := 1#32
  let arg12 : BitVec 32 := Scf.iv c0_i32_191 c1_i32_193 k0_t18
  let c16_i32 : BitVec 32 := 16#32
  let v410 : BitVec 32 := Scalar.muli arg12 c16_i32
  let v411 : BitVec 32 := Scalar.addi c0_i32_590 v410
  let v414 : Index := Scalar.indexCast v411
  ![0, 1, v414.toNat]
@[reducible] def k0_t19_loop : Scf.Loop 32 :=
  let c0_i32_196 : BitVec 32 := 0#32
  let c128_i32_197 : BitVec 32 := 128#32
  let v164 : BitVec 32 := Scalar.addi c0_i32_196 c128_i32_197
  let c1_i32_198 : BitVec 32 := 1#32
  ⟨c0_i32_196, v164, c1_i32_198⟩
def k0_off20 (k0_t19 : Fin k0_t19_loop.trips) : Fin 3 → Nat :=
  let c0_i32_591 : BitVec 32 := 0#32
  let v412 : Index := Scalar.indexCast c0_i32_591
  let c2_i32_592 : BitVec 32 := 2#32
  let v413 : Index := Scalar.indexCast c2_i32_592
  let c0_i32_590 : BitVec 32 := 0#32
  let c0_i32_196 : BitVec 32 := 0#32
  let c1_i32_198 : BitVec 32 := 1#32
  let arg12 : BitVec 32 := Scf.iv c0_i32_196 c1_i32_198 k0_t19
  let c16_i32 : BitVec 32 := 16#32
  let v410 : BitVec 32 := Scalar.muli arg12 c16_i32
  let v411 : BitVec 32 := Scalar.addi c0_i32_590 v410
  let v414 : Index := Scalar.indexCast v411
  ![0, 2, v414.toNat]
@[reducible] def k0_t20_loop : Scf.Loop 32 :=
  let c0_i32_201 : BitVec 32 := 0#32
  let c128_i32_202 : BitVec 32 := 128#32
  let v165 : BitVec 32 := Scalar.addi c0_i32_201 c128_i32_202
  let c1_i32_203 : BitVec 32 := 1#32
  ⟨c0_i32_201, v165, c1_i32_203⟩
def k0_off21 (k0_t20 : Fin k0_t20_loop.trips) : Fin 3 → Nat :=
  let c0_i32_591 : BitVec 32 := 0#32
  let v412 : Index := Scalar.indexCast c0_i32_591
  let c3_i32 : BitVec 32 := 3#32
  let v413 : Index := Scalar.indexCast c3_i32
  let c0_i32_590 : BitVec 32 := 0#32
  let c0_i32_201 : BitVec 32 := 0#32
  let c1_i32_203 : BitVec 32 := 1#32
  let arg12 : BitVec 32 := Scf.iv c0_i32_201 c1_i32_203 k0_t20
  let c16_i32 : BitVec 32 := 16#32
  let v410 : BitVec 32 := Scalar.muli arg12 c16_i32
  let v411 : BitVec 32 := Scalar.addi c0_i32_590 v410
  let v414 : Index := Scalar.indexCast v411
  ![0, 3, v414.toNat]
@[reducible] def k0_t21_loop : Scf.Loop 32 :=
  let c0_i32_206 : BitVec 32 := 0#32
  let c128_i32_207 : BitVec 32 := 128#32
  let v166 : BitVec 32 := Scalar.addi c0_i32_206 c128_i32_207
  let c1_i32_208 : BitVec 32 := 1#32
  ⟨c0_i32_206, v166, c1_i32_208⟩
def k0_off22 (k0_t21 : Fin k0_t21_loop.trips) : Fin 3 → Nat :=
  let c0_i32_591 : BitVec 32 := 0#32
  let v412 : Index := Scalar.indexCast c0_i32_591
  let c4_i32 : BitVec 32 := 4#32
  let v413 : Index := Scalar.indexCast c4_i32
  let c0_i32_590 : BitVec 32 := 0#32
  let c0_i32_206 : BitVec 32 := 0#32
  let c1_i32_208 : BitVec 32 := 1#32
  let arg12 : BitVec 32 := Scf.iv c0_i32_206 c1_i32_208 k0_t21
  let c16_i32 : BitVec 32 := 16#32
  let v410 : BitVec 32 := Scalar.muli arg12 c16_i32
  let v411 : BitVec 32 := Scalar.addi c0_i32_590 v410
  let v414 : Index := Scalar.indexCast v411
  ![0, 4, v414.toNat]
@[reducible] def k0_t22_loop : Scf.Loop 32 :=
  let c0_i32_211 : BitVec 32 := 0#32
  let c128_i32_212 : BitVec 32 := 128#32
  let v167 : BitVec 32 := Scalar.addi c0_i32_211 c128_i32_212
  let c1_i32_213 : BitVec 32 := 1#32
  ⟨c0_i32_211, v167, c1_i32_213⟩
def k0_off23 (k0_t22 : Fin k0_t22_loop.trips) : Fin 3 → Nat :=
  let c0_i32_591 : BitVec 32 := 0#32
  let v412 : Index := Scalar.indexCast c0_i32_591
  let c5_i32 : BitVec 32 := 5#32
  let v413 : Index := Scalar.indexCast c5_i32
  let c0_i32_590 : BitVec 32 := 0#32
  let c0_i32_211 : BitVec 32 := 0#32
  let c1_i32_213 : BitVec 32 := 1#32
  let arg12 : BitVec 32 := Scf.iv c0_i32_211 c1_i32_213 k0_t22
  let c16_i32 : BitVec 32 := 16#32
  let v410 : BitVec 32 := Scalar.muli arg12 c16_i32
  let v411 : BitVec 32 := Scalar.addi c0_i32_590 v410
  let v414 : Index := Scalar.indexCast v411
  ![0, 5, v414.toNat]
@[reducible] def k0_t23_loop : Scf.Loop 32 :=
  let c0_i32_216 : BitVec 32 := 0#32
  let c128_i32_217 : BitVec 32 := 128#32
  let v168 : BitVec 32 := Scalar.addi c0_i32_216 c128_i32_217
  let c1_i32_218 : BitVec 32 := 1#32
  ⟨c0_i32_216, v168, c1_i32_218⟩
def k0_off24 (k0_t23 : Fin k0_t23_loop.trips) : Fin 3 → Nat :=
  let c0_i32_591 : BitVec 32 := 0#32
  let v412 : Index := Scalar.indexCast c0_i32_591
  let c6_i32 : BitVec 32 := 6#32
  let v413 : Index := Scalar.indexCast c6_i32
  let c0_i32_590 : BitVec 32 := 0#32
  let c0_i32_216 : BitVec 32 := 0#32
  let c1_i32_218 : BitVec 32 := 1#32
  let arg12 : BitVec 32 := Scf.iv c0_i32_216 c1_i32_218 k0_t23
  let c16_i32 : BitVec 32 := 16#32
  let v410 : BitVec 32 := Scalar.muli arg12 c16_i32
  let v411 : BitVec 32 := Scalar.addi c0_i32_590 v410
  let v414 : Index := Scalar.indexCast v411
  ![0, 6, v414.toNat]
@[reducible] def k0_t24_loop : Scf.Loop 32 :=
  let c0_i32_221 : BitVec 32 := 0#32
  let c128_i32_222 : BitVec 32 := 128#32
  let v169 : BitVec 32 := Scalar.addi c0_i32_221 c128_i32_222
  let c1_i32_223 : BitVec 32 := 1#32
  ⟨c0_i32_221, v169, c1_i32_223⟩
def k0_off25 (k0_t24 : Fin k0_t24_loop.trips) : Fin 3 → Nat :=
  let c0_i32_591 : BitVec 32 := 0#32
  let v412 : Index := Scalar.indexCast c0_i32_591
  let c7_i32 : BitVec 32 := 7#32
  let v413 : Index := Scalar.indexCast c7_i32
  let c0_i32_590 : BitVec 32 := 0#32
  let c0_i32_221 : BitVec 32 := 0#32
  let c1_i32_223 : BitVec 32 := 1#32
  let arg12 : BitVec 32 := Scf.iv c0_i32_221 c1_i32_223 k0_t24
  let c16_i32 : BitVec 32 := 16#32
  let v410 : BitVec 32 := Scalar.muli arg12 c16_i32
  let v411 : BitVec 32 := Scalar.addi c0_i32_590 v410
  let v414 : Index := Scalar.indexCast v411
  ![0, 7, v414.toNat]
@[reducible] def k0_t25_loop : Scf.Loop 32 :=
  let c0_i32_258 : BitVec 32 := 0#32
  let c128_i32_259 : BitVec 32 := 128#32
  let v209 : BitVec 32 := Scalar.addi c0_i32_258 c128_i32_259
  let c1_i32_260 : BitVec 32 := 1#32
  ⟨c0_i32_258, v209, c1_i32_260⟩
def k0_off26 (k0_t25 : Fin k0_t25_loop.trips) : Fin 3 → Nat :=
  let c1_i32_591 : BitVec 32 := 1#32
  let v412 : Index := Scalar.indexCast c1_i32_591
  let c0_i32_592 : BitVec 32 := 0#32
  let v413 : Index := Scalar.indexCast c0_i32_592
  let c0_i32_590 : BitVec 32 := 0#32
  let c0_i32_258 : BitVec 32 := 0#32
  let c1_i32_260 : BitVec 32 := 1#32
  let arg12 : BitVec 32 := Scf.iv c0_i32_258 c1_i32_260 k0_t25
  let c16_i32 : BitVec 32 := 16#32
  let v410 : BitVec 32 := Scalar.muli arg12 c16_i32
  let v411 : BitVec 32 := Scalar.addi c0_i32_590 v410
  let v414 : Index := Scalar.indexCast v411
  ![1, 0, v414.toNat]
@[reducible] def k0_t26_loop : Scf.Loop 32 :=
  let c0_i32_263 : BitVec 32 := 0#32
  let c128_i32_264 : BitVec 32 := 128#32
  let v210 : BitVec 32 := Scalar.addi c0_i32_263 c128_i32_264
  let c1_i32_265 : BitVec 32 := 1#32
  ⟨c0_i32_263, v210, c1_i32_265⟩
def k0_off27 (k0_t26 : Fin k0_t26_loop.trips) : Fin 3 → Nat :=
  let c1_i32_591 : BitVec 32 := 1#32
  let v412 : Index := Scalar.indexCast c1_i32_591
  let c1_i32_592 : BitVec 32 := 1#32
  let v413 : Index := Scalar.indexCast c1_i32_592
  let c0_i32_590 : BitVec 32 := 0#32
  let c0_i32_263 : BitVec 32 := 0#32
  let c1_i32_265 : BitVec 32 := 1#32
  let arg12 : BitVec 32 := Scf.iv c0_i32_263 c1_i32_265 k0_t26
  let c16_i32 : BitVec 32 := 16#32
  let v410 : BitVec 32 := Scalar.muli arg12 c16_i32
  let v411 : BitVec 32 := Scalar.addi c0_i32_590 v410
  let v414 : Index := Scalar.indexCast v411
  ![1, 1, v414.toNat]
@[reducible] def k0_t27_loop : Scf.Loop 32 :=
  let c0_i32_268 : BitVec 32 := 0#32
  let c128_i32_269 : BitVec 32 := 128#32
  let v211 : BitVec 32 := Scalar.addi c0_i32_268 c128_i32_269
  let c1_i32_270 : BitVec 32 := 1#32
  ⟨c0_i32_268, v211, c1_i32_270⟩
def k0_off28 (k0_t27 : Fin k0_t27_loop.trips) : Fin 3 → Nat :=
  let c1_i32_591 : BitVec 32 := 1#32
  let v412 : Index := Scalar.indexCast c1_i32_591
  let c2_i32_592 : BitVec 32 := 2#32
  let v413 : Index := Scalar.indexCast c2_i32_592
  let c0_i32_590 : BitVec 32 := 0#32
  let c0_i32_268 : BitVec 32 := 0#32
  let c1_i32_270 : BitVec 32 := 1#32
  let arg12 : BitVec 32 := Scf.iv c0_i32_268 c1_i32_270 k0_t27
  let c16_i32 : BitVec 32 := 16#32
  let v410 : BitVec 32 := Scalar.muli arg12 c16_i32
  let v411 : BitVec 32 := Scalar.addi c0_i32_590 v410
  let v414 : Index := Scalar.indexCast v411
  ![1, 2, v414.toNat]
@[reducible] def k0_t28_loop : Scf.Loop 32 :=
  let c0_i32_273 : BitVec 32 := 0#32
  let c128_i32_274 : BitVec 32 := 128#32
  let v212 : BitVec 32 := Scalar.addi c0_i32_273 c128_i32_274
  let c1_i32_275 : BitVec 32 := 1#32
  ⟨c0_i32_273, v212, c1_i32_275⟩
def k0_off29 (k0_t28 : Fin k0_t28_loop.trips) : Fin 3 → Nat :=
  let c1_i32_591 : BitVec 32 := 1#32
  let v412 : Index := Scalar.indexCast c1_i32_591
  let c3_i32 : BitVec 32 := 3#32
  let v413 : Index := Scalar.indexCast c3_i32
  let c0_i32_590 : BitVec 32 := 0#32
  let c0_i32_273 : BitVec 32 := 0#32
  let c1_i32_275 : BitVec 32 := 1#32
  let arg12 : BitVec 32 := Scf.iv c0_i32_273 c1_i32_275 k0_t28
  let c16_i32 : BitVec 32 := 16#32
  let v410 : BitVec 32 := Scalar.muli arg12 c16_i32
  let v411 : BitVec 32 := Scalar.addi c0_i32_590 v410
  let v414 : Index := Scalar.indexCast v411
  ![1, 3, v414.toNat]
@[reducible] def k0_t29_loop : Scf.Loop 32 :=
  let c0_i32_278 : BitVec 32 := 0#32
  let c128_i32_279 : BitVec 32 := 128#32
  let v213 : BitVec 32 := Scalar.addi c0_i32_278 c128_i32_279
  let c1_i32_280 : BitVec 32 := 1#32
  ⟨c0_i32_278, v213, c1_i32_280⟩
def k0_off30 (k0_t29 : Fin k0_t29_loop.trips) : Fin 3 → Nat :=
  let c1_i32_591 : BitVec 32 := 1#32
  let v412 : Index := Scalar.indexCast c1_i32_591
  let c4_i32 : BitVec 32 := 4#32
  let v413 : Index := Scalar.indexCast c4_i32
  let c0_i32_590 : BitVec 32 := 0#32
  let c0_i32_278 : BitVec 32 := 0#32
  let c1_i32_280 : BitVec 32 := 1#32
  let arg12 : BitVec 32 := Scf.iv c0_i32_278 c1_i32_280 k0_t29
  let c16_i32 : BitVec 32 := 16#32
  let v410 : BitVec 32 := Scalar.muli arg12 c16_i32
  let v411 : BitVec 32 := Scalar.addi c0_i32_590 v410
  let v414 : Index := Scalar.indexCast v411
  ![1, 4, v414.toNat]
@[reducible] def k0_t30_loop : Scf.Loop 32 :=
  let c0_i32_283 : BitVec 32 := 0#32
  let c128_i32_284 : BitVec 32 := 128#32
  let v214 : BitVec 32 := Scalar.addi c0_i32_283 c128_i32_284
  let c1_i32_285 : BitVec 32 := 1#32
  ⟨c0_i32_283, v214, c1_i32_285⟩
def k0_off31 (k0_t30 : Fin k0_t30_loop.trips) : Fin 3 → Nat :=
  let c1_i32_591 : BitVec 32 := 1#32
  let v412 : Index := Scalar.indexCast c1_i32_591
  let c5_i32 : BitVec 32 := 5#32
  let v413 : Index := Scalar.indexCast c5_i32
  let c0_i32_590 : BitVec 32 := 0#32
  let c0_i32_283 : BitVec 32 := 0#32
  let c1_i32_285 : BitVec 32 := 1#32
  let arg12 : BitVec 32 := Scf.iv c0_i32_283 c1_i32_285 k0_t30
  let c16_i32 : BitVec 32 := 16#32
  let v410 : BitVec 32 := Scalar.muli arg12 c16_i32
  let v411 : BitVec 32 := Scalar.addi c0_i32_590 v410
  let v414 : Index := Scalar.indexCast v411
  ![1, 5, v414.toNat]
@[reducible] def k0_t31_loop : Scf.Loop 32 :=
  let c0_i32_288 : BitVec 32 := 0#32
  let c128_i32_289 : BitVec 32 := 128#32
  let v215 : BitVec 32 := Scalar.addi c0_i32_288 c128_i32_289
  let c1_i32_290 : BitVec 32 := 1#32
  ⟨c0_i32_288, v215, c1_i32_290⟩
def k0_off32 (k0_t31 : Fin k0_t31_loop.trips) : Fin 3 → Nat :=
  let c1_i32_591 : BitVec 32 := 1#32
  let v412 : Index := Scalar.indexCast c1_i32_591
  let c6_i32 : BitVec 32 := 6#32
  let v413 : Index := Scalar.indexCast c6_i32
  let c0_i32_590 : BitVec 32 := 0#32
  let c0_i32_288 : BitVec 32 := 0#32
  let c1_i32_290 : BitVec 32 := 1#32
  let arg12 : BitVec 32 := Scf.iv c0_i32_288 c1_i32_290 k0_t31
  let c16_i32 : BitVec 32 := 16#32
  let v410 : BitVec 32 := Scalar.muli arg12 c16_i32
  let v411 : BitVec 32 := Scalar.addi c0_i32_590 v410
  let v414 : Index := Scalar.indexCast v411
  ![1, 6, v414.toNat]
@[reducible] def k0_t32_loop : Scf.Loop 32 :=
  let c0_i32_293 : BitVec 32 := 0#32
  let c128_i32_294 : BitVec 32 := 128#32
  let v216 : BitVec 32 := Scalar.addi c0_i32_293 c128_i32_294
  let c1_i32_295 : BitVec 32 := 1#32
  ⟨c0_i32_293, v216, c1_i32_295⟩
def k0_off33 (k0_t32 : Fin k0_t32_loop.trips) : Fin 3 → Nat :=
  let c1_i32_591 : BitVec 32 := 1#32
  let v412 : Index := Scalar.indexCast c1_i32_591
  let c7_i32 : BitVec 32 := 7#32
  let v413 : Index := Scalar.indexCast c7_i32
  let c0_i32_590 : BitVec 32 := 0#32
  let c0_i32_293 : BitVec 32 := 0#32
  let c1_i32_295 : BitVec 32 := 1#32
  let arg12 : BitVec 32 := Scf.iv c0_i32_293 c1_i32_295 k0_t32
  let c16_i32 : BitVec 32 := 16#32
  let v410 : BitVec 32 := Scalar.muli arg12 c16_i32
  let v411 : BitVec 32 := Scalar.addi c0_i32_590 v410
  let v414 : Index := Scalar.indexCast v411
  ![1, 7, v414.toNat]
@[reducible] def k0_t33_loop : Scf.Loop 32 :=
  let c0_i32_330 : BitVec 32 := 0#32
  let c128_i32_331 : BitVec 32 := 128#32
  let v256 : BitVec 32 := Scalar.addi c0_i32_330 c128_i32_331
  let c1_i32_332 : BitVec 32 := 1#32
  ⟨c0_i32_330, v256, c1_i32_332⟩
def k0_off34 (k0_t33 : Fin k0_t33_loop.trips) : Fin 3 → Nat :=
  let c0_i32_591 : BitVec 32 := 0#32
  let v412 : Index := Scalar.indexCast c0_i32_591
  let c0_i32_592 : BitVec 32 := 0#32
  let v413 : Index := Scalar.indexCast c0_i32_592
  let c0_i32_590 : BitVec 32 := 0#32
  let c0_i32_330 : BitVec 32 := 0#32
  let c1_i32_332 : BitVec 32 := 1#32
  let arg12 : BitVec 32 := Scf.iv c0_i32_330 c1_i32_332 k0_t33
  let c16_i32 : BitVec 32 := 16#32
  let v410 : BitVec 32 := Scalar.muli arg12 c16_i32
  let v411 : BitVec 32 := Scalar.addi c0_i32_590 v410
  let v414 : Index := Scalar.indexCast v411
  ![0, 0, v414.toNat]
@[reducible] def k0_t34_loop : Scf.Loop 32 :=
  let c0_i32_335 : BitVec 32 := 0#32
  let c128_i32_336 : BitVec 32 := 128#32
  let v257 : BitVec 32 := Scalar.addi c0_i32_335 c128_i32_336
  let c1_i32_337 : BitVec 32 := 1#32
  ⟨c0_i32_335, v257, c1_i32_337⟩
def k0_off35 (k0_t34 : Fin k0_t34_loop.trips) : Fin 3 → Nat :=
  let c0_i32_591 : BitVec 32 := 0#32
  let v412 : Index := Scalar.indexCast c0_i32_591
  let c1_i32_592 : BitVec 32 := 1#32
  let v413 : Index := Scalar.indexCast c1_i32_592
  let c0_i32_590 : BitVec 32 := 0#32
  let c0_i32_335 : BitVec 32 := 0#32
  let c1_i32_337 : BitVec 32 := 1#32
  let arg12 : BitVec 32 := Scf.iv c0_i32_335 c1_i32_337 k0_t34
  let c16_i32 : BitVec 32 := 16#32
  let v410 : BitVec 32 := Scalar.muli arg12 c16_i32
  let v411 : BitVec 32 := Scalar.addi c0_i32_590 v410
  let v414 : Index := Scalar.indexCast v411
  ![0, 1, v414.toNat]
@[reducible] def k0_t35_loop : Scf.Loop 32 :=
  let c0_i32_340 : BitVec 32 := 0#32
  let c128_i32_341 : BitVec 32 := 128#32
  let v258 : BitVec 32 := Scalar.addi c0_i32_340 c128_i32_341
  let c1_i32_342 : BitVec 32 := 1#32
  ⟨c0_i32_340, v258, c1_i32_342⟩
def k0_off36 (k0_t35 : Fin k0_t35_loop.trips) : Fin 3 → Nat :=
  let c0_i32_591 : BitVec 32 := 0#32
  let v412 : Index := Scalar.indexCast c0_i32_591
  let c2_i32_592 : BitVec 32 := 2#32
  let v413 : Index := Scalar.indexCast c2_i32_592
  let c0_i32_590 : BitVec 32 := 0#32
  let c0_i32_340 : BitVec 32 := 0#32
  let c1_i32_342 : BitVec 32 := 1#32
  let arg12 : BitVec 32 := Scf.iv c0_i32_340 c1_i32_342 k0_t35
  let c16_i32 : BitVec 32 := 16#32
  let v410 : BitVec 32 := Scalar.muli arg12 c16_i32
  let v411 : BitVec 32 := Scalar.addi c0_i32_590 v410
  let v414 : Index := Scalar.indexCast v411
  ![0, 2, v414.toNat]
@[reducible] def k0_t36_loop : Scf.Loop 32 :=
  let c0_i32_345 : BitVec 32 := 0#32
  let c128_i32_346 : BitVec 32 := 128#32
  let v259 : BitVec 32 := Scalar.addi c0_i32_345 c128_i32_346
  let c1_i32_347 : BitVec 32 := 1#32
  ⟨c0_i32_345, v259, c1_i32_347⟩
def k0_off37 (k0_t36 : Fin k0_t36_loop.trips) : Fin 3 → Nat :=
  let c0_i32_591 : BitVec 32 := 0#32
  let v412 : Index := Scalar.indexCast c0_i32_591
  let c3_i32 : BitVec 32 := 3#32
  let v413 : Index := Scalar.indexCast c3_i32
  let c0_i32_590 : BitVec 32 := 0#32
  let c0_i32_345 : BitVec 32 := 0#32
  let c1_i32_347 : BitVec 32 := 1#32
  let arg12 : BitVec 32 := Scf.iv c0_i32_345 c1_i32_347 k0_t36
  let c16_i32 : BitVec 32 := 16#32
  let v410 : BitVec 32 := Scalar.muli arg12 c16_i32
  let v411 : BitVec 32 := Scalar.addi c0_i32_590 v410
  let v414 : Index := Scalar.indexCast v411
  ![0, 3, v414.toNat]
@[reducible] def k0_t37_loop : Scf.Loop 32 :=
  let c0_i32_350 : BitVec 32 := 0#32
  let c128_i32_351 : BitVec 32 := 128#32
  let v260 : BitVec 32 := Scalar.addi c0_i32_350 c128_i32_351
  let c1_i32_352 : BitVec 32 := 1#32
  ⟨c0_i32_350, v260, c1_i32_352⟩
def k0_off38 (k0_t37 : Fin k0_t37_loop.trips) : Fin 3 → Nat :=
  let c0_i32_591 : BitVec 32 := 0#32
  let v412 : Index := Scalar.indexCast c0_i32_591
  let c4_i32 : BitVec 32 := 4#32
  let v413 : Index := Scalar.indexCast c4_i32
  let c0_i32_590 : BitVec 32 := 0#32
  let c0_i32_350 : BitVec 32 := 0#32
  let c1_i32_352 : BitVec 32 := 1#32
  let arg12 : BitVec 32 := Scf.iv c0_i32_350 c1_i32_352 k0_t37
  let c16_i32 : BitVec 32 := 16#32
  let v410 : BitVec 32 := Scalar.muli arg12 c16_i32
  let v411 : BitVec 32 := Scalar.addi c0_i32_590 v410
  let v414 : Index := Scalar.indexCast v411
  ![0, 4, v414.toNat]
@[reducible] def k0_t38_loop : Scf.Loop 32 :=
  let c0_i32_355 : BitVec 32 := 0#32
  let c128_i32_356 : BitVec 32 := 128#32
  let v261 : BitVec 32 := Scalar.addi c0_i32_355 c128_i32_356
  let c1_i32_357 : BitVec 32 := 1#32
  ⟨c0_i32_355, v261, c1_i32_357⟩
def k0_off39 (k0_t38 : Fin k0_t38_loop.trips) : Fin 3 → Nat :=
  let c0_i32_591 : BitVec 32 := 0#32
  let v412 : Index := Scalar.indexCast c0_i32_591
  let c5_i32 : BitVec 32 := 5#32
  let v413 : Index := Scalar.indexCast c5_i32
  let c0_i32_590 : BitVec 32 := 0#32
  let c0_i32_355 : BitVec 32 := 0#32
  let c1_i32_357 : BitVec 32 := 1#32
  let arg12 : BitVec 32 := Scf.iv c0_i32_355 c1_i32_357 k0_t38
  let c16_i32 : BitVec 32 := 16#32
  let v410 : BitVec 32 := Scalar.muli arg12 c16_i32
  let v411 : BitVec 32 := Scalar.addi c0_i32_590 v410
  let v414 : Index := Scalar.indexCast v411
  ![0, 5, v414.toNat]
@[reducible] def k0_t39_loop : Scf.Loop 32 :=
  let c0_i32_360 : BitVec 32 := 0#32
  let c128_i32_361 : BitVec 32 := 128#32
  let v262 : BitVec 32 := Scalar.addi c0_i32_360 c128_i32_361
  let c1_i32_362 : BitVec 32 := 1#32
  ⟨c0_i32_360, v262, c1_i32_362⟩
def k0_off40 (k0_t39 : Fin k0_t39_loop.trips) : Fin 3 → Nat :=
  let c0_i32_591 : BitVec 32 := 0#32
  let v412 : Index := Scalar.indexCast c0_i32_591
  let c6_i32 : BitVec 32 := 6#32
  let v413 : Index := Scalar.indexCast c6_i32
  let c0_i32_590 : BitVec 32 := 0#32
  let c0_i32_360 : BitVec 32 := 0#32
  let c1_i32_362 : BitVec 32 := 1#32
  let arg12 : BitVec 32 := Scf.iv c0_i32_360 c1_i32_362 k0_t39
  let c16_i32 : BitVec 32 := 16#32
  let v410 : BitVec 32 := Scalar.muli arg12 c16_i32
  let v411 : BitVec 32 := Scalar.addi c0_i32_590 v410
  let v414 : Index := Scalar.indexCast v411
  ![0, 6, v414.toNat]
@[reducible] def k0_t40_loop : Scf.Loop 32 :=
  let c0_i32_365 : BitVec 32 := 0#32
  let c128_i32_366 : BitVec 32 := 128#32
  let v263 : BitVec 32 := Scalar.addi c0_i32_365 c128_i32_366
  let c1_i32_367 : BitVec 32 := 1#32
  ⟨c0_i32_365, v263, c1_i32_367⟩
def k0_off41 (k0_t40 : Fin k0_t40_loop.trips) : Fin 3 → Nat :=
  let c0_i32_591 : BitVec 32 := 0#32
  let v412 : Index := Scalar.indexCast c0_i32_591
  let c7_i32 : BitVec 32 := 7#32
  let v413 : Index := Scalar.indexCast c7_i32
  let c0_i32_590 : BitVec 32 := 0#32
  let c0_i32_365 : BitVec 32 := 0#32
  let c1_i32_367 : BitVec 32 := 1#32
  let arg12 : BitVec 32 := Scf.iv c0_i32_365 c1_i32_367 k0_t40
  let c16_i32 : BitVec 32 := 16#32
  let v410 : BitVec 32 := Scalar.muli arg12 c16_i32
  let v411 : BitVec 32 := Scalar.addi c0_i32_590 v410
  let v414 : Index := Scalar.indexCast v411
  ![0, 7, v414.toNat]
@[reducible] def k0_t41_loop : Scf.Loop 32 :=
  let c0_i32_402 : BitVec 32 := 0#32
  let c128_i32_403 : BitVec 32 := 128#32
  let v303 : BitVec 32 := Scalar.addi c0_i32_402 c128_i32_403
  let c1_i32_404 : BitVec 32 := 1#32
  ⟨c0_i32_402, v303, c1_i32_404⟩
def k0_off42 (k0_t41 : Fin k0_t41_loop.trips) : Fin 3 → Nat :=
  let c1_i32_591 : BitVec 32 := 1#32
  let v412 : Index := Scalar.indexCast c1_i32_591
  let c0_i32_592 : BitVec 32 := 0#32
  let v413 : Index := Scalar.indexCast c0_i32_592
  let c0_i32_590 : BitVec 32 := 0#32
  let c0_i32_402 : BitVec 32 := 0#32
  let c1_i32_404 : BitVec 32 := 1#32
  let arg12 : BitVec 32 := Scf.iv c0_i32_402 c1_i32_404 k0_t41
  let c16_i32 : BitVec 32 := 16#32
  let v410 : BitVec 32 := Scalar.muli arg12 c16_i32
  let v411 : BitVec 32 := Scalar.addi c0_i32_590 v410
  let v414 : Index := Scalar.indexCast v411
  ![1, 0, v414.toNat]
@[reducible] def k0_t42_loop : Scf.Loop 32 :=
  let c0_i32_407 : BitVec 32 := 0#32
  let c128_i32_408 : BitVec 32 := 128#32
  let v304 : BitVec 32 := Scalar.addi c0_i32_407 c128_i32_408
  let c1_i32_409 : BitVec 32 := 1#32
  ⟨c0_i32_407, v304, c1_i32_409⟩
def k0_off43 (k0_t42 : Fin k0_t42_loop.trips) : Fin 3 → Nat :=
  let c1_i32_591 : BitVec 32 := 1#32
  let v412 : Index := Scalar.indexCast c1_i32_591
  let c1_i32_592 : BitVec 32 := 1#32
  let v413 : Index := Scalar.indexCast c1_i32_592
  let c0_i32_590 : BitVec 32 := 0#32
  let c0_i32_407 : BitVec 32 := 0#32
  let c1_i32_409 : BitVec 32 := 1#32
  let arg12 : BitVec 32 := Scf.iv c0_i32_407 c1_i32_409 k0_t42
  let c16_i32 : BitVec 32 := 16#32
  let v410 : BitVec 32 := Scalar.muli arg12 c16_i32
  let v411 : BitVec 32 := Scalar.addi c0_i32_590 v410
  let v414 : Index := Scalar.indexCast v411
  ![1, 1, v414.toNat]
@[reducible] def k0_t43_loop : Scf.Loop 32 :=
  let c0_i32_412 : BitVec 32 := 0#32
  let c128_i32_413 : BitVec 32 := 128#32
  let v305 : BitVec 32 := Scalar.addi c0_i32_412 c128_i32_413
  let c1_i32_414 : BitVec 32 := 1#32
  ⟨c0_i32_412, v305, c1_i32_414⟩
def k0_off44 (k0_t43 : Fin k0_t43_loop.trips) : Fin 3 → Nat :=
  let c1_i32_591 : BitVec 32 := 1#32
  let v412 : Index := Scalar.indexCast c1_i32_591
  let c2_i32_592 : BitVec 32 := 2#32
  let v413 : Index := Scalar.indexCast c2_i32_592
  let c0_i32_590 : BitVec 32 := 0#32
  let c0_i32_412 : BitVec 32 := 0#32
  let c1_i32_414 : BitVec 32 := 1#32
  let arg12 : BitVec 32 := Scf.iv c0_i32_412 c1_i32_414 k0_t43
  let c16_i32 : BitVec 32 := 16#32
  let v410 : BitVec 32 := Scalar.muli arg12 c16_i32
  let v411 : BitVec 32 := Scalar.addi c0_i32_590 v410
  let v414 : Index := Scalar.indexCast v411
  ![1, 2, v414.toNat]
@[reducible] def k0_t44_loop : Scf.Loop 32 :=
  let c0_i32_417 : BitVec 32 := 0#32
  let c128_i32_418 : BitVec 32 := 128#32
  let v306 : BitVec 32 := Scalar.addi c0_i32_417 c128_i32_418
  let c1_i32_419 : BitVec 32 := 1#32
  ⟨c0_i32_417, v306, c1_i32_419⟩
def k0_off45 (k0_t44 : Fin k0_t44_loop.trips) : Fin 3 → Nat :=
  let c1_i32_591 : BitVec 32 := 1#32
  let v412 : Index := Scalar.indexCast c1_i32_591
  let c3_i32 : BitVec 32 := 3#32
  let v413 : Index := Scalar.indexCast c3_i32
  let c0_i32_590 : BitVec 32 := 0#32
  let c0_i32_417 : BitVec 32 := 0#32
  let c1_i32_419 : BitVec 32 := 1#32
  let arg12 : BitVec 32 := Scf.iv c0_i32_417 c1_i32_419 k0_t44
  let c16_i32 : BitVec 32 := 16#32
  let v410 : BitVec 32 := Scalar.muli arg12 c16_i32
  let v411 : BitVec 32 := Scalar.addi c0_i32_590 v410
  let v414 : Index := Scalar.indexCast v411
  ![1, 3, v414.toNat]
@[reducible] def k0_t45_loop : Scf.Loop 32 :=
  let c0_i32_422 : BitVec 32 := 0#32
  let c128_i32_423 : BitVec 32 := 128#32
  let v307 : BitVec 32 := Scalar.addi c0_i32_422 c128_i32_423
  let c1_i32_424 : BitVec 32 := 1#32
  ⟨c0_i32_422, v307, c1_i32_424⟩
def k0_off46 (k0_t45 : Fin k0_t45_loop.trips) : Fin 3 → Nat :=
  let c1_i32_591 : BitVec 32 := 1#32
  let v412 : Index := Scalar.indexCast c1_i32_591
  let c4_i32 : BitVec 32 := 4#32
  let v413 : Index := Scalar.indexCast c4_i32
  let c0_i32_590 : BitVec 32 := 0#32
  let c0_i32_422 : BitVec 32 := 0#32
  let c1_i32_424 : BitVec 32 := 1#32
  let arg12 : BitVec 32 := Scf.iv c0_i32_422 c1_i32_424 k0_t45
  let c16_i32 : BitVec 32 := 16#32
  let v410 : BitVec 32 := Scalar.muli arg12 c16_i32
  let v411 : BitVec 32 := Scalar.addi c0_i32_590 v410
  let v414 : Index := Scalar.indexCast v411
  ![1, 4, v414.toNat]
@[reducible] def k0_t46_loop : Scf.Loop 32 :=
  let c0_i32_427 : BitVec 32 := 0#32
  let c128_i32_428 : BitVec 32 := 128#32
  let v308 : BitVec 32 := Scalar.addi c0_i32_427 c128_i32_428
  let c1_i32_429 : BitVec 32 := 1#32
  ⟨c0_i32_427, v308, c1_i32_429⟩
def k0_off47 (k0_t46 : Fin k0_t46_loop.trips) : Fin 3 → Nat :=
  let c1_i32_591 : BitVec 32 := 1#32
  let v412 : Index := Scalar.indexCast c1_i32_591
  let c5_i32 : BitVec 32 := 5#32
  let v413 : Index := Scalar.indexCast c5_i32
  let c0_i32_590 : BitVec 32 := 0#32
  let c0_i32_427 : BitVec 32 := 0#32
  let c1_i32_429 : BitVec 32 := 1#32
  let arg12 : BitVec 32 := Scf.iv c0_i32_427 c1_i32_429 k0_t46
  let c16_i32 : BitVec 32 := 16#32
  let v410 : BitVec 32 := Scalar.muli arg12 c16_i32
  let v411 : BitVec 32 := Scalar.addi c0_i32_590 v410
  let v414 : Index := Scalar.indexCast v411
  ![1, 5, v414.toNat]
@[reducible] def k0_t47_loop : Scf.Loop 32 :=
  let c0_i32_432 : BitVec 32 := 0#32
  let c128_i32_433 : BitVec 32 := 128#32
  let v309 : BitVec 32 := Scalar.addi c0_i32_432 c128_i32_433
  let c1_i32_434 : BitVec 32 := 1#32
  ⟨c0_i32_432, v309, c1_i32_434⟩
def k0_off48 (k0_t47 : Fin k0_t47_loop.trips) : Fin 3 → Nat :=
  let c1_i32_591 : BitVec 32 := 1#32
  let v412 : Index := Scalar.indexCast c1_i32_591
  let c6_i32 : BitVec 32 := 6#32
  let v413 : Index := Scalar.indexCast c6_i32
  let c0_i32_590 : BitVec 32 := 0#32
  let c0_i32_432 : BitVec 32 := 0#32
  let c1_i32_434 : BitVec 32 := 1#32
  let arg12 : BitVec 32 := Scf.iv c0_i32_432 c1_i32_434 k0_t47
  let c16_i32 : BitVec 32 := 16#32
  let v410 : BitVec 32 := Scalar.muli arg12 c16_i32
  let v411 : BitVec 32 := Scalar.addi c0_i32_590 v410
  let v414 : Index := Scalar.indexCast v411
  ![1, 6, v414.toNat]
@[reducible] def k0_t48_loop : Scf.Loop 32 :=
  let c0_i32_437 : BitVec 32 := 0#32
  let c128_i32_438 : BitVec 32 := 128#32
  let v310 : BitVec 32 := Scalar.addi c0_i32_437 c128_i32_438
  let c1_i32_439 : BitVec 32 := 1#32
  ⟨c0_i32_437, v310, c1_i32_439⟩
def k0_off49 (k0_t48 : Fin k0_t48_loop.trips) : Fin 3 → Nat :=
  let c1_i32_591 : BitVec 32 := 1#32
  let v412 : Index := Scalar.indexCast c1_i32_591
  let c7_i32 : BitVec 32 := 7#32
  let v413 : Index := Scalar.indexCast c7_i32
  let c0_i32_590 : BitVec 32 := 0#32
  let c0_i32_437 : BitVec 32 := 0#32
  let c1_i32_439 : BitVec 32 := 1#32
  let arg12 : BitVec 32 := Scf.iv c0_i32_437 c1_i32_439 k0_t48
  let c16_i32 : BitVec 32 := 16#32
  let v410 : BitVec 32 := Scalar.muli arg12 c16_i32
  let v411 : BitVec 32 := Scalar.addi c0_i32_590 v410
  let v414 : Index := Scalar.indexCast v411
  ![1, 7, v414.toNat]
@[reducible] def k0_t49_loop : Scf.Loop 32 :=
  let c0_i32_474 : BitVec 32 := 0#32
  let c128_i32_475 : BitVec 32 := 128#32
  let v350 : BitVec 32 := Scalar.addi c0_i32_474 c128_i32_475
  let c1_i32_476 : BitVec 32 := 1#32
  ⟨c0_i32_474, v350, c1_i32_476⟩
def k0_off50 (k0_t49 : Fin k0_t49_loop.trips) : Fin 3 → Nat :=
  let c0_i32_591 : BitVec 32 := 0#32
  let v412 : Index := Scalar.indexCast c0_i32_591
  let c0_i32_592 : BitVec 32 := 0#32
  let v413 : Index := Scalar.indexCast c0_i32_592
  let c0_i32_590 : BitVec 32 := 0#32
  let c0_i32_474 : BitVec 32 := 0#32
  let c1_i32_476 : BitVec 32 := 1#32
  let arg12 : BitVec 32 := Scf.iv c0_i32_474 c1_i32_476 k0_t49
  let c16_i32 : BitVec 32 := 16#32
  let v410 : BitVec 32 := Scalar.muli arg12 c16_i32
  let v411 : BitVec 32 := Scalar.addi c0_i32_590 v410
  let v414 : Index := Scalar.indexCast v411
  ![0, 0, v414.toNat]
@[reducible] def k0_t50_loop : Scf.Loop 32 :=
  let c0_i32_479 : BitVec 32 := 0#32
  let c128_i32_480 : BitVec 32 := 128#32
  let v351 : BitVec 32 := Scalar.addi c0_i32_479 c128_i32_480
  let c1_i32_481 : BitVec 32 := 1#32
  ⟨c0_i32_479, v351, c1_i32_481⟩
def k0_off51 (k0_t50 : Fin k0_t50_loop.trips) : Fin 3 → Nat :=
  let c0_i32_591 : BitVec 32 := 0#32
  let v412 : Index := Scalar.indexCast c0_i32_591
  let c1_i32_592 : BitVec 32 := 1#32
  let v413 : Index := Scalar.indexCast c1_i32_592
  let c0_i32_590 : BitVec 32 := 0#32
  let c0_i32_479 : BitVec 32 := 0#32
  let c1_i32_481 : BitVec 32 := 1#32
  let arg12 : BitVec 32 := Scf.iv c0_i32_479 c1_i32_481 k0_t50
  let c16_i32 : BitVec 32 := 16#32
  let v410 : BitVec 32 := Scalar.muli arg12 c16_i32
  let v411 : BitVec 32 := Scalar.addi c0_i32_590 v410
  let v414 : Index := Scalar.indexCast v411
  ![0, 1, v414.toNat]
@[reducible] def k0_t51_loop : Scf.Loop 32 :=
  let c0_i32_484 : BitVec 32 := 0#32
  let c128_i32_485 : BitVec 32 := 128#32
  let v352 : BitVec 32 := Scalar.addi c0_i32_484 c128_i32_485
  let c1_i32_486 : BitVec 32 := 1#32
  ⟨c0_i32_484, v352, c1_i32_486⟩
def k0_off52 (k0_t51 : Fin k0_t51_loop.trips) : Fin 3 → Nat :=
  let c0_i32_591 : BitVec 32 := 0#32
  let v412 : Index := Scalar.indexCast c0_i32_591
  let c2_i32_592 : BitVec 32 := 2#32
  let v413 : Index := Scalar.indexCast c2_i32_592
  let c0_i32_590 : BitVec 32 := 0#32
  let c0_i32_484 : BitVec 32 := 0#32
  let c1_i32_486 : BitVec 32 := 1#32
  let arg12 : BitVec 32 := Scf.iv c0_i32_484 c1_i32_486 k0_t51
  let c16_i32 : BitVec 32 := 16#32
  let v410 : BitVec 32 := Scalar.muli arg12 c16_i32
  let v411 : BitVec 32 := Scalar.addi c0_i32_590 v410
  let v414 : Index := Scalar.indexCast v411
  ![0, 2, v414.toNat]
@[reducible] def k0_t52_loop : Scf.Loop 32 :=
  let c0_i32_489 : BitVec 32 := 0#32
  let c128_i32_490 : BitVec 32 := 128#32
  let v353 : BitVec 32 := Scalar.addi c0_i32_489 c128_i32_490
  let c1_i32_491 : BitVec 32 := 1#32
  ⟨c0_i32_489, v353, c1_i32_491⟩
def k0_off53 (k0_t52 : Fin k0_t52_loop.trips) : Fin 3 → Nat :=
  let c0_i32_591 : BitVec 32 := 0#32
  let v412 : Index := Scalar.indexCast c0_i32_591
  let c3_i32 : BitVec 32 := 3#32
  let v413 : Index := Scalar.indexCast c3_i32
  let c0_i32_590 : BitVec 32 := 0#32
  let c0_i32_489 : BitVec 32 := 0#32
  let c1_i32_491 : BitVec 32 := 1#32
  let arg12 : BitVec 32 := Scf.iv c0_i32_489 c1_i32_491 k0_t52
  let c16_i32 : BitVec 32 := 16#32
  let v410 : BitVec 32 := Scalar.muli arg12 c16_i32
  let v411 : BitVec 32 := Scalar.addi c0_i32_590 v410
  let v414 : Index := Scalar.indexCast v411
  ![0, 3, v414.toNat]
@[reducible] def k0_t53_loop : Scf.Loop 32 :=
  let c0_i32_494 : BitVec 32 := 0#32
  let c128_i32_495 : BitVec 32 := 128#32
  let v354 : BitVec 32 := Scalar.addi c0_i32_494 c128_i32_495
  let c1_i32_496 : BitVec 32 := 1#32
  ⟨c0_i32_494, v354, c1_i32_496⟩
def k0_off54 (k0_t53 : Fin k0_t53_loop.trips) : Fin 3 → Nat :=
  let c0_i32_591 : BitVec 32 := 0#32
  let v412 : Index := Scalar.indexCast c0_i32_591
  let c4_i32 : BitVec 32 := 4#32
  let v413 : Index := Scalar.indexCast c4_i32
  let c0_i32_590 : BitVec 32 := 0#32
  let c0_i32_494 : BitVec 32 := 0#32
  let c1_i32_496 : BitVec 32 := 1#32
  let arg12 : BitVec 32 := Scf.iv c0_i32_494 c1_i32_496 k0_t53
  let c16_i32 : BitVec 32 := 16#32
  let v410 : BitVec 32 := Scalar.muli arg12 c16_i32
  let v411 : BitVec 32 := Scalar.addi c0_i32_590 v410
  let v414 : Index := Scalar.indexCast v411
  ![0, 4, v414.toNat]
@[reducible] def k0_t54_loop : Scf.Loop 32 :=
  let c0_i32_499 : BitVec 32 := 0#32
  let c128_i32_500 : BitVec 32 := 128#32
  let v355 : BitVec 32 := Scalar.addi c0_i32_499 c128_i32_500
  let c1_i32_501 : BitVec 32 := 1#32
  ⟨c0_i32_499, v355, c1_i32_501⟩
def k0_off55 (k0_t54 : Fin k0_t54_loop.trips) : Fin 3 → Nat :=
  let c0_i32_591 : BitVec 32 := 0#32
  let v412 : Index := Scalar.indexCast c0_i32_591
  let c5_i32 : BitVec 32 := 5#32
  let v413 : Index := Scalar.indexCast c5_i32
  let c0_i32_590 : BitVec 32 := 0#32
  let c0_i32_499 : BitVec 32 := 0#32
  let c1_i32_501 : BitVec 32 := 1#32
  let arg12 : BitVec 32 := Scf.iv c0_i32_499 c1_i32_501 k0_t54
  let c16_i32 : BitVec 32 := 16#32
  let v410 : BitVec 32 := Scalar.muli arg12 c16_i32
  let v411 : BitVec 32 := Scalar.addi c0_i32_590 v410
  let v414 : Index := Scalar.indexCast v411
  ![0, 5, v414.toNat]
@[reducible] def k0_t55_loop : Scf.Loop 32 :=
  let c0_i32_504 : BitVec 32 := 0#32
  let c128_i32_505 : BitVec 32 := 128#32
  let v356 : BitVec 32 := Scalar.addi c0_i32_504 c128_i32_505
  let c1_i32_506 : BitVec 32 := 1#32
  ⟨c0_i32_504, v356, c1_i32_506⟩
def k0_off56 (k0_t55 : Fin k0_t55_loop.trips) : Fin 3 → Nat :=
  let c0_i32_591 : BitVec 32 := 0#32
  let v412 : Index := Scalar.indexCast c0_i32_591
  let c6_i32 : BitVec 32 := 6#32
  let v413 : Index := Scalar.indexCast c6_i32
  let c0_i32_590 : BitVec 32 := 0#32
  let c0_i32_504 : BitVec 32 := 0#32
  let c1_i32_506 : BitVec 32 := 1#32
  let arg12 : BitVec 32 := Scf.iv c0_i32_504 c1_i32_506 k0_t55
  let c16_i32 : BitVec 32 := 16#32
  let v410 : BitVec 32 := Scalar.muli arg12 c16_i32
  let v411 : BitVec 32 := Scalar.addi c0_i32_590 v410
  let v414 : Index := Scalar.indexCast v411
  ![0, 6, v414.toNat]
@[reducible] def k0_t56_loop : Scf.Loop 32 :=
  let c0_i32_509 : BitVec 32 := 0#32
  let c128_i32_510 : BitVec 32 := 128#32
  let v357 : BitVec 32 := Scalar.addi c0_i32_509 c128_i32_510
  let c1_i32_511 : BitVec 32 := 1#32
  ⟨c0_i32_509, v357, c1_i32_511⟩
def k0_off57 (k0_t56 : Fin k0_t56_loop.trips) : Fin 3 → Nat :=
  let c0_i32_591 : BitVec 32 := 0#32
  let v412 : Index := Scalar.indexCast c0_i32_591
  let c7_i32 : BitVec 32 := 7#32
  let v413 : Index := Scalar.indexCast c7_i32
  let c0_i32_590 : BitVec 32 := 0#32
  let c0_i32_509 : BitVec 32 := 0#32
  let c1_i32_511 : BitVec 32 := 1#32
  let arg12 : BitVec 32 := Scf.iv c0_i32_509 c1_i32_511 k0_t56
  let c16_i32 : BitVec 32 := 16#32
  let v410 : BitVec 32 := Scalar.muli arg12 c16_i32
  let v411 : BitVec 32 := Scalar.addi c0_i32_590 v410
  let v414 : Index := Scalar.indexCast v411
  ![0, 7, v414.toNat]
@[reducible] def k0_t57_loop : Scf.Loop 32 :=
  let c0_i32_535 : BitVec 32 := 0#32
  let c128_i32_536 : BitVec 32 := 128#32
  let v383 : BitVec 32 := Scalar.addi c0_i32_535 c128_i32_536
  let c1_i32_537 : BitVec 32 := 1#32
  ⟨c0_i32_535, v383, c1_i32_537⟩
def k0_off58 (k0_t57 : Fin k0_t57_loop.trips) : Fin 3 → Nat :=
  let c1_i32_591 : BitVec 32 := 1#32
  let v412 : Index := Scalar.indexCast c1_i32_591
  let c0_i32_592 : BitVec 32 := 0#32
  let v413 : Index := Scalar.indexCast c0_i32_592
  let c0_i32_590 : BitVec 32 := 0#32
  let c0_i32_535 : BitVec 32 := 0#32
  let c1_i32_537 : BitVec 32 := 1#32
  let arg12 : BitVec 32 := Scf.iv c0_i32_535 c1_i32_537 k0_t57
  let c16_i32 : BitVec 32 := 16#32
  let v410 : BitVec 32 := Scalar.muli arg12 c16_i32
  let v411 : BitVec 32 := Scalar.addi c0_i32_590 v410
  let v414 : Index := Scalar.indexCast v411
  ![1, 0, v414.toNat]
@[reducible] def k0_t58_loop : Scf.Loop 32 :=
  let c0_i32_540 : BitVec 32 := 0#32
  let c128_i32_541 : BitVec 32 := 128#32
  let v384 : BitVec 32 := Scalar.addi c0_i32_540 c128_i32_541
  let c1_i32_542 : BitVec 32 := 1#32
  ⟨c0_i32_540, v384, c1_i32_542⟩
def k0_off59 (k0_t58 : Fin k0_t58_loop.trips) : Fin 3 → Nat :=
  let c1_i32_591 : BitVec 32 := 1#32
  let v412 : Index := Scalar.indexCast c1_i32_591
  let c1_i32_592 : BitVec 32 := 1#32
  let v413 : Index := Scalar.indexCast c1_i32_592
  let c0_i32_590 : BitVec 32 := 0#32
  let c0_i32_540 : BitVec 32 := 0#32
  let c1_i32_542 : BitVec 32 := 1#32
  let arg12 : BitVec 32 := Scf.iv c0_i32_540 c1_i32_542 k0_t58
  let c16_i32 : BitVec 32 := 16#32
  let v410 : BitVec 32 := Scalar.muli arg12 c16_i32
  let v411 : BitVec 32 := Scalar.addi c0_i32_590 v410
  let v414 : Index := Scalar.indexCast v411
  ![1, 1, v414.toNat]
@[reducible] def k0_t59_loop : Scf.Loop 32 :=
  let c0_i32_545 : BitVec 32 := 0#32
  let c128_i32_546 : BitVec 32 := 128#32
  let v385 : BitVec 32 := Scalar.addi c0_i32_545 c128_i32_546
  let c1_i32_547 : BitVec 32 := 1#32
  ⟨c0_i32_545, v385, c1_i32_547⟩
def k0_off60 (k0_t59 : Fin k0_t59_loop.trips) : Fin 3 → Nat :=
  let c1_i32_591 : BitVec 32 := 1#32
  let v412 : Index := Scalar.indexCast c1_i32_591
  let c2_i32_592 : BitVec 32 := 2#32
  let v413 : Index := Scalar.indexCast c2_i32_592
  let c0_i32_590 : BitVec 32 := 0#32
  let c0_i32_545 : BitVec 32 := 0#32
  let c1_i32_547 : BitVec 32 := 1#32
  let arg12 : BitVec 32 := Scf.iv c0_i32_545 c1_i32_547 k0_t59
  let c16_i32 : BitVec 32 := 16#32
  let v410 : BitVec 32 := Scalar.muli arg12 c16_i32
  let v411 : BitVec 32 := Scalar.addi c0_i32_590 v410
  let v414 : Index := Scalar.indexCast v411
  ![1, 2, v414.toNat]
@[reducible] def k0_t60_loop : Scf.Loop 32 :=
  let c0_i32_550 : BitVec 32 := 0#32
  let c128_i32_551 : BitVec 32 := 128#32
  let v386 : BitVec 32 := Scalar.addi c0_i32_550 c128_i32_551
  let c1_i32_552 : BitVec 32 := 1#32
  ⟨c0_i32_550, v386, c1_i32_552⟩
def k0_off61 (k0_t60 : Fin k0_t60_loop.trips) : Fin 3 → Nat :=
  let c1_i32_591 : BitVec 32 := 1#32
  let v412 : Index := Scalar.indexCast c1_i32_591
  let c3_i32 : BitVec 32 := 3#32
  let v413 : Index := Scalar.indexCast c3_i32
  let c0_i32_590 : BitVec 32 := 0#32
  let c0_i32_550 : BitVec 32 := 0#32
  let c1_i32_552 : BitVec 32 := 1#32
  let arg12 : BitVec 32 := Scf.iv c0_i32_550 c1_i32_552 k0_t60
  let c16_i32 : BitVec 32 := 16#32
  let v410 : BitVec 32 := Scalar.muli arg12 c16_i32
  let v411 : BitVec 32 := Scalar.addi c0_i32_590 v410
  let v414 : Index := Scalar.indexCast v411
  ![1, 3, v414.toNat]
@[reducible] def k0_t61_loop : Scf.Loop 32 :=
  let c0_i32_555 : BitVec 32 := 0#32
  let c128_i32_556 : BitVec 32 := 128#32
  let v387 : BitVec 32 := Scalar.addi c0_i32_555 c128_i32_556
  let c1_i32_557 : BitVec 32 := 1#32
  ⟨c0_i32_555, v387, c1_i32_557⟩
def k0_off62 (k0_t61 : Fin k0_t61_loop.trips) : Fin 3 → Nat :=
  let c1_i32_591 : BitVec 32 := 1#32
  let v412 : Index := Scalar.indexCast c1_i32_591
  let c4_i32 : BitVec 32 := 4#32
  let v413 : Index := Scalar.indexCast c4_i32
  let c0_i32_590 : BitVec 32 := 0#32
  let c0_i32_555 : BitVec 32 := 0#32
  let c1_i32_557 : BitVec 32 := 1#32
  let arg12 : BitVec 32 := Scf.iv c0_i32_555 c1_i32_557 k0_t61
  let c16_i32 : BitVec 32 := 16#32
  let v410 : BitVec 32 := Scalar.muli arg12 c16_i32
  let v411 : BitVec 32 := Scalar.addi c0_i32_590 v410
  let v414 : Index := Scalar.indexCast v411
  ![1, 4, v414.toNat]
@[reducible] def k0_t62_loop : Scf.Loop 32 :=
  let c0_i32_560 : BitVec 32 := 0#32
  let c128_i32_561 : BitVec 32 := 128#32
  let v388 : BitVec 32 := Scalar.addi c0_i32_560 c128_i32_561
  let c1_i32_562 : BitVec 32 := 1#32
  ⟨c0_i32_560, v388, c1_i32_562⟩
def k0_off63 (k0_t62 : Fin k0_t62_loop.trips) : Fin 3 → Nat :=
  let c1_i32_591 : BitVec 32 := 1#32
  let v412 : Index := Scalar.indexCast c1_i32_591
  let c5_i32 : BitVec 32 := 5#32
  let v413 : Index := Scalar.indexCast c5_i32
  let c0_i32_590 : BitVec 32 := 0#32
  let c0_i32_560 : BitVec 32 := 0#32
  let c1_i32_562 : BitVec 32 := 1#32
  let arg12 : BitVec 32 := Scf.iv c0_i32_560 c1_i32_562 k0_t62
  let c16_i32 : BitVec 32 := 16#32
  let v410 : BitVec 32 := Scalar.muli arg12 c16_i32
  let v411 : BitVec 32 := Scalar.addi c0_i32_590 v410
  let v414 : Index := Scalar.indexCast v411
  ![1, 5, v414.toNat]
@[reducible] def k0_t63_loop : Scf.Loop 32 :=
  let c0_i32_565 : BitVec 32 := 0#32
  let c128_i32_566 : BitVec 32 := 128#32
  let v389 : BitVec 32 := Scalar.addi c0_i32_565 c128_i32_566
  let c1_i32_567 : BitVec 32 := 1#32
  ⟨c0_i32_565, v389, c1_i32_567⟩
def k0_off64 (k0_t63 : Fin k0_t63_loop.trips) : Fin 3 → Nat :=
  let c1_i32_591 : BitVec 32 := 1#32
  let v412 : Index := Scalar.indexCast c1_i32_591
  let c6_i32 : BitVec 32 := 6#32
  let v413 : Index := Scalar.indexCast c6_i32
  let c0_i32_590 : BitVec 32 := 0#32
  let c0_i32_565 : BitVec 32 := 0#32
  let c1_i32_567 : BitVec 32 := 1#32
  let arg12 : BitVec 32 := Scf.iv c0_i32_565 c1_i32_567 k0_t63
  let c16_i32 : BitVec 32 := 16#32
  let v410 : BitVec 32 := Scalar.muli arg12 c16_i32
  let v411 : BitVec 32 := Scalar.addi c0_i32_590 v410
  let v414 : Index := Scalar.indexCast v411
  ![1, 6, v414.toNat]
@[reducible] def k0_t64_loop : Scf.Loop 32 :=
  let c0_i32_570 : BitVec 32 := 0#32
  let c128_i32_571 : BitVec 32 := 128#32
  let v390 : BitVec 32 := Scalar.addi c0_i32_570 c128_i32_571
  let c1_i32_572 : BitVec 32 := 1#32
  ⟨c0_i32_570, v390, c1_i32_572⟩
def k0_off65 (k0_t64 : Fin k0_t64_loop.trips) : Fin 3 → Nat :=
  let c1_i32_591 : BitVec 32 := 1#32
  let v412 : Index := Scalar.indexCast c1_i32_591
  let c7_i32 : BitVec 32 := 7#32
  let v413 : Index := Scalar.indexCast c7_i32
  let c0_i32_590 : BitVec 32 := 0#32
  let c0_i32_570 : BitVec 32 := 0#32
  let c1_i32_572 : BitVec 32 := 1#32
  let arg12 : BitVec 32 := Scf.iv c0_i32_570 c1_i32_572 k0_t64
  let c16_i32 : BitVec 32 := 16#32
  let v410 : BitVec 32 := Scalar.muli arg12 c16_i32
  let v411 : BitVec 32 := Scalar.addi c0_i32_590 v410
  let v414 : Index := Scalar.indexCast v411
  ![1, 7, v414.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x32768 : Shape := ⟨2, ![128, 32768]⟩
abbrev S_ : Shape := ⟨0, ![]⟩
abbrev S32767 : Shape := ⟨1, ![32767]⟩
abbrev S1 : Shape := ⟨1, ![1]⟩
abbrev S32768 : Shape := ⟨1, ![32768]⟩
abbrev S128x32768x1 : Shape := ⟨3, ![128, 32768, 1]⟩
abbrev S1x1x1 : Shape := ⟨3, ![1, 1, 1]⟩
abbrev S128 : Shape := ⟨1, ![128]⟩
abbrev S128x1 : Shape := ⟨2, ![128, 1]⟩

abbrev nBuf : Space → Nat
  | .hbm => 68
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | .hbm, ⟨2, _⟩ => ⟨S128x32768, .i32⟩
  | .hbm, ⟨3, _⟩ => ⟨S128x32768, .f32⟩
  | .hbm, ⟨4, _⟩ => ⟨S128x32768, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32767, .f32⟩
  | .hbm, ⟨13, _⟩ => ⟨S_, .f32⟩
  | .hbm, ⟨14, _⟩ => ⟨S32767, .f32⟩
  | .hbm, ⟨15, _⟩ => ⟨S32767, .f32⟩
  | .hbm, ⟨16, _⟩ => ⟨S1, .f32⟩
  | .hbm, ⟨17, _⟩ => ⟨S_, .f32⟩
  | .hbm, ⟨18, _⟩ => ⟨S32767, .f32⟩
  | .hbm, ⟨19, _⟩ => ⟨S32767, .f32⟩
  | .hbm, ⟨20, _⟩ => ⟨S32767, .f32⟩
  | .hbm, ⟨21, _⟩ => ⟨S32767, .f32⟩
  | .hbm, ⟨22, _⟩ => ⟨S1, .f32⟩
  | .hbm, ⟨23, _⟩ => ⟨S32767, .f32⟩
  | .hbm, ⟨24, _⟩ => ⟨S32767, .f32⟩
  | .hbm, ⟨25, _⟩ => ⟨S32767, .f32⟩
  | .hbm, ⟨26, _⟩ => ⟨S1, .f32⟩
  | .hbm, ⟨27, _⟩ => ⟨S32768, .f32⟩
  | .hbm, ⟨28, _⟩ => ⟨S128x32768, .i32⟩
  | .hbm, ⟨29, _⟩ => ⟨S128x32768, .i32⟩
  | .hbm, ⟨30, _⟩ => ⟨S128x32768, .i32⟩
  | .hbm, ⟨31, _⟩ => ⟨S128x32768, .f32⟩
  | .hbm, ⟨32, _⟩ => ⟨S_, .i32⟩
  | .hbm, ⟨33, _⟩ => ⟨S128x32768, .i32⟩
  | .hbm, ⟨34, _⟩ => ⟨S128x32768, .i1⟩
  | .hbm, ⟨35, _⟩ => ⟨S_, .i32⟩
  | .hbm, ⟨36, _⟩ => ⟨S128x32768, .i32⟩
  | .hbm, ⟨37, _⟩ => ⟨S128x32768, .i32⟩
  | .hbm, ⟨38, _⟩ => ⟨S128x32768, .i32⟩
  | .hbm, ⟨39, _⟩ => ⟨S128x32768x1, .i32⟩
  | .hbm, ⟨40, _⟩ => ⟨S1, .i32⟩
  | .hbm, ⟨41, _⟩ => ⟨S_, .i32⟩
  | .hbm, ⟨42, _⟩ => ⟨S128x32768x1, .i32⟩
  | .hbm, ⟨43, _⟩ => ⟨S128x32768x1, .i1⟩
  | .hbm, ⟨44, _⟩ => ⟨S1x1x1, .i32⟩
  | .hbm, ⟨45, _⟩ => ⟨S128x32768x1, .i32⟩
  | .hbm, ⟨46, _⟩ => ⟨S128x32768x1, .i1⟩
  | .hbm, ⟨47, _⟩ => ⟨S128x32768x1, .i1⟩
  | .hbm, ⟨48, _⟩ => ⟨S_, .i1⟩
  | .hbm, ⟨49, _⟩ => ⟨S128x32768, .i1⟩
  | .hbm, ⟨50, _⟩ => ⟨S128x32768, .f32⟩
  | .hbm, ⟨51, _⟩ => ⟨S_, .f32⟩
  | .hbm, ⟨52, _⟩ => ⟨S128x32768, .f32⟩
  | .hbm, ⟨53, _⟩ => ⟨S128x32768, .f32⟩
  | .hbm, ⟨54, _⟩ => ⟨S128x32768, .i1⟩
  | .hbm, ⟨55, _⟩ => ⟨S128x32768, .f32⟩
  | .hbm, ⟨56, _⟩ => ⟨S128x32768, .f32⟩
  | .hbm, ⟨57, _⟩ => ⟨S_, .f32⟩
  | .hbm, ⟨58, _⟩ => ⟨S128, .f32⟩
  | .hbm, ⟨59, _⟩ => ⟨S128x1, .f32⟩
  | .hbm, ⟨60, _⟩ => ⟨S_, .f32⟩
  | .hbm, ⟨61, _⟩ => ⟨S128x1, .f32⟩
  | .hbm, ⟨62, _⟩ => ⟨S128x1, .f32⟩
  | .hbm, ⟨63, _⟩ => ⟨S_, .f32⟩
  | .hbm, ⟨64, _⟩ => ⟨S128x1, .f32⟩
  | .hbm, ⟨65, _⟩ => ⟨S128x1, .f32⟩
  | .hbm, ⟨66, _⟩ => ⟨S128x32768, .f32⟩
  | .hbm, ⟨67, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_cst : Ref sig .tc := ⟨.hbm, 10, rfl⟩
abbrev main_call1_v3 : Ref sig .tc := ⟨.hbm, 11, rfl⟩
abbrev main_call1_v4 : Ref sig .tc := ⟨.hbm, 12, rfl⟩
abbrev main_call1_cst_0 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_cst_1 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_v12 : Ref sig .tc := ⟨.hbm, 22, rfl⟩
abbrev main_call1_v13 : Ref sig .tc := ⟨.hbm, 23, rfl⟩
abbrev main_call1_v14 : Ref sig .tc := ⟨.hbm, 24, rfl⟩
abbrev main_call1_v15 : Ref sig .tc := ⟨.hbm, 25, rfl⟩
abbrev main_call1_v16 : Ref sig .tc := ⟨.hbm, 26, rfl⟩
abbrev main_v1 : Ref sig .tc := ⟨.hbm, 27, rfl⟩
abbrev main_call2_v0 : Ref sig .tc := ⟨.hbm, 28, rfl⟩
abbrev main_call2_v1_0 : Ref sig .tc := ⟨.hbm, 29, rfl⟩
abbrev main_v2 : Ref sig .tc := ⟨.hbm, 30, rfl⟩
abbrev main_v3 : Ref sig .tc := ⟨.hbm, 31, rfl⟩
abbrev main_call3_c : Ref sig .tc := ⟨.hbm, 32, rfl⟩
abbrev main_call3_v0 : Ref sig .tc := ⟨.hbm, 33, rfl⟩
abbrev main_call3_v1 : Ref sig .tc := ⟨.hbm, 34, rfl⟩
abbrev main_call3_c_0 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_c_1 : Ref sig .tc := ⟨.hbm, 40, rfl⟩
abbrev main_call3_c_2 : Ref sig .tc := ⟨.hbm, 41, rfl⟩
abbrev main_call3_v6 : Ref sig .tc := ⟨.hbm, 42, rfl⟩
abbrev main_call3_v7 : Ref sig .tc := ⟨.hbm, 43, rfl⟩
abbrev main_call3_v8 : Ref sig .tc := ⟨.hbm, 44, rfl⟩
abbrev main_call3_v9 : Ref sig .tc := ⟨.hbm, 45, rfl⟩
abbrev main_call3_v10 : Ref sig .tc := ⟨.hbm, 46, rfl⟩
abbrev main_call3_v11 : Ref sig .tc := ⟨.hbm, 47, rfl⟩
abbrev main_call3_c_3 : Ref sig .tc := ⟨.hbm, 48, rfl⟩
abbrev main_call3_v12 : Ref sig .tc := ⟨.hbm, 49, rfl⟩
abbrev main_call3_v13 : Ref sig .tc := ⟨.hbm, 50, rfl⟩
abbrev main_call3_cst : Ref sig .tc := ⟨.hbm, 51, rfl⟩
abbrev main_call3_v14 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_cst_1 : Ref sig .tc := ⟨.hbm, 57, rfl⟩
abbrev main_v8 : Ref sig .tc := ⟨.hbm, 58, rfl⟩
abbrev main_v9 : Ref sig .tc := ⟨.hbm, 59, rfl⟩
abbrev main_cst_2 : Ref sig .tc := ⟨.hbm, 60, rfl⟩
abbrev main_v10 : Ref sig .tc := ⟨.hbm, 61, rfl⟩
abbrev main_v11 : Ref sig .tc := ⟨.hbm, 62, rfl⟩
abbrev main_cst_3 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩

abbrev nD : Nat := 1
abbrev τ : Topo := Topo.v7x

variable {F : FTy → Type} [FloatOps F]
-- ==== Proof.T.Struct.lean ====
/-
  The kernel's body, told by its phases. The printed body is one straight line cut into windows by position;
  here it is the same line read as: start the two fetches of a chunk, wait for them, wait for the slot's old
  result to leave, compute the slot's eight rows, start the result's copy out.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Batch
public import Idealize.ShloMosaic.Lib.Tactic
public import proofs.«01_k».proof.Proof.Gen.KernelIdeal
public import proofs.«01_k».proof.Proof.Gen.KernelIdeal.Skeleton

@[expose] public section

noncomputable section

namespace Cert.Proof.Sc

open Cert.KernelIdeal Cert.KernelIdeal.Gen

open Idealize.ShloMosaic Idealize.SL.Sem

variable {F : FTy → Type} [FloatOps F]

/-- A program of the vector subcore at grid point `L`. -/
abbrev PR (F : FTy → Type) [FloatOps F] (L : grid0.Coords) (α : Type) :=
  Prog (TpuEff nD τ sig (Elt F) Λ₀ (.scVector ((L 0).castLE hcore0) ((L 1).castLE hsub0))) α

/-- The arrays and the three double buffers, whole, as a vector subcore names them. -/
abbrev xH : Memref sig .scVector .hbm S128x32768 .f32 := Memref.whole main_arg0_scv
/-- The noise in the large memory. -/
abbrev nH : Memref sig .scVector .hbm S128x32768 .f32 := Memref.whole main_arg1_scv
/-- The result in the large memory. -/
abbrev oH : Memref sig .scVector .hbm S128x32768 .f32 := Memref.whole main_v0_scv
/-- The double buffer of the first argument. -/
abbrev xB : Memref sig .scVector .vmem S2x8x2048 .f32 := Memref.whole cc0_scratch0
/-- The double buffer of the noise. -/
abbrev nB : Memref sig .scVector .vmem S2x8x2048 .f32 := Memref.whole cc0_scratch1
/-- The double buffer of the result. -/
abbrev oB : Memref sig .scVector .vmem S2x8x2048 .f32 := Memref.whole cc0_scratch2

/-- The semaphore of the fetches into slot `b`, and of the copies out of it. -/
abbrev semIn (b : Fin 2) : DmaSem sig := match b with | 0 => cc0_scratch3.sem | 1 => cc0_scratch4.sem
/-- The counter of the copies out of slot `b`. -/
abbrev semOut (b : Fin 2) : DmaSem sig := match b with | 0 => cc0_scratch5.sem | 1 => cc0_scratch6.sem

/-- A slot lies in its double buffer. -/
theorem slot_inb (b : Fin 2) : ∀ a, (![b.val, 0, 0] : Fin 3 → Nat) a + S1x8x2048.size a ≤ S2x8x2048.size a := by
  revert b; decide

/-- Slot `b` of a double buffer, as a rectangle. -/
abbrev slotR (b : Fin 2) : Rect S2x8x2048 := Rect.unit (s := S2x8x2048) ![b.val, 0, 0] S1x8x2048.size (slot_inb b)
/-- Slot `b` of a double buffer, as the copies name it. -/
abbrev slot (m : Memref sig .scVector .vmem S2x8x2048 .f32) (b : Fin 2) : Memref sig .scVector .vmem S8x2048 .f32 :=
  (m.slice (slotR b) (fun _ => rfl)).squeeze S8x2048 squeezes_S1x8x2048_S8x2048
/-- Chunk `n` of the subcore's part of an array, as a rectangle. -/
abbrev slabR (L : grid0.Coords) (n : Fin 8) : Rect S128x32768 :=
  Rect.unit (s := S128x32768) (k0_off1 L (BitVec.ofNat 32 (2048 * n.val))) S8x2048.size (k0_off1_inb L n)
/-- Chunk `n` of the subcore's part of an array, as the copies name it. -/
abbrev slab (m : Memref sig .scVector .hbm S128x32768 .f32) (L : grid0.Coords) (n : Fin 8) : Memref sig .scVector .hbm S8x2048 .f32 :=
  m.slice (slabR L n) (fun _ => rfl)

/-- Where trip `k` of row `r`'s loop reads and writes in slot `b`, as the kernel computes it. -/
def rowOff (b : Fin 2) (r : Fin 8) (k : Fin k0_t1_loop.trips) : Fin 3 → Nat :=
  ![b.val, r.val, (Scalar.indexCast (Scalar.addi 0#32 (Scalar.muli (Scf.iv 0#32 1#32 k) 16#32))).toNat]

/-- The same in numbers: sixteen lanes from column `16 k`. -/
theorem rowOff_eq (b : Fin 2) (r : Fin 8) (k : Fin k0_t1_loop.trips) : rowOff b r k = ![b.val, r.val, 16 * k.val] := by
  have h : ∀ k : Fin k0_t1_loop.trips,
      (Scalar.indexCast (Scalar.addi 0#32 (Scalar.muli (Scf.iv 0#32 1#32 k) 16#32))).toNat = 16 * k.val := by decide +kernel
  unfold rowOff; rw [h]

/-- A row takes 128 trips of sixteen lanes. -/
theorem trips_eq : k0_t1_loop.trips = 128 := by decide +kernel

/-- A trip's sixteen lanes lie in the double buffer. -/
theorem rowOff_inb (b : Fin 2) (r : Fin 8) (k : Fin k0_t1_loop.trips) :
    ∀ a, (rowOff b r k) a + S1x1x16.size a ≤ S2x8x2048.size a := by
  have hk : k.val < 128 := lt_of_lt_of_eq k.isLt trips_eq
  rw [rowOff_eq]
  intro a
  match a with
  | 0 => show b.val + 1 ≤ 2; omega
  | 1 => show r.val + 1 ≤ 8; omega
  | 2 => show 16 * k.val + 16 ≤ 2048; omega

/-- A trip's sixteen lanes, as a rectangle. -/
abbrev rowR (b : Fin 2) (r : Fin 8) (k : Fin k0_t1_loop.trips) : Rect S2x8x2048 :=
  Rect.unit (s := S2x8x2048) (rowOff b r k) S1x1x16.size (rowOff_inb b r k)

variable (L : grid0.Coords)

/-- One trip of a row: read the noise, the values and the old result, store the new result. -/
def rowBody (b : Fin 2) (r : Fin 8) (k : Fin k0_t1_loop.trips) (_ : Unit) : PR F L Unit := do
  let vn : Vec F S1x1x16 .f32 ← Prog.lift (.load nB (rowR b r k).toLoadRect (View.loadsAt_vmem h_S1x1x16))
  let vx : Vec F S1x1x16 .f32 ← Prog.lift (.load xB (rowR b r k).toLoadRect (View.loadsAt_vmem h_S1x1x16))
  let _vo : Vec F S1x1x16 .f32 ← Prog.lift (.load oB (rowR b r k).toLoadRect (View.loadsAt_vmem h_S1x1x16))
  Prog.lift (.store oB (rowR b r k) (k0_pay3 k0_pay1 k0_pay2 vn vx) Finset.univ (View.stores_vmem_bits_univ h_S1x1x16 rfl) (.inl rfl))
  pure ⟨⟩

/-- Row `r` of slot `b`. -/
def rowLoop (b : Fin 2) (r : Fin 8) : PR F L Unit := Scf.Loop.for k0_t1_loop k0_t1_ok ⟨⟩ (rowBody L b r)

/-- Start the fetches of chunk `n` into slot `b`. -/
def startIn (b : Fin 2) (n : Fin 8) : PR F L Unit := do
  Prog.lift (.enqueueDma (slab xH L n) (.here (slot xB b)) (.dma (semIn b)) (View.wordExact_bits rfl) ((View.wordExact_bits rfl).reshape _ _) ⟨Or.inl rfl, trivial⟩)
  Prog.lift (.enqueueDma (slab nH L n) (.here (slot nB b)) (.dma (semIn b)) (View.wordExact_bits rfl) ((View.wordExact_bits rfl).reshape _ _) ⟨Or.inl rfl, trivial⟩)

/-- Wait for the fetches of chunk `n` into slot `b`. -/
def waitIn (b : Fin 2) (n : Fin 8) : PR F L Unit := do
  Prog.lift (.waitDma2 (semIn b) (slab xH L n) (slot xB b) (View.wordExact_bits rfl) ((View.wordExact_bits rfl).reshape _ _))
  Prog.lift (.waitDma2 (semIn b) (slab nH L n) (slot nB b) (View.wordExact_bits rfl) ((View.wordExact_bits rfl).reshape _ _))

/-- Wait for the copy of slot `b` out to chunk `n`. -/
def waitOut (b : Fin 2) (n : Fin 8) : PR F L Unit :=
  Prog.lift (.waitDma2 (semOut b) (slot oB b) (slab oH L n) ((View.wordExact_bits rfl).reshape _ _) (View.wordExact_bits rfl))

/-- Start the copy of slot `b` out to chunk `n`. -/
def startOut (b : Fin 2) (n : Fin 8) : PR F L Unit :=
  Prog.lift (.enqueueDma (slot oB b) (.here (slab oH L n)) (.dma (semOut b)) ((View.wordExact_bits rfl).reshape _ _) (View.wordExact_bits rfl) ⟨Or.inl rfl, trivial⟩)

/-- The eight rows of slot `b`. -/
def rows (b : Fin 2) : PR F L Unit := do
  rowLoop L b 0; rowLoop L b 1; rowLoop L b 2; rowLoop L b 3
  rowLoop L b 4; rowLoop L b 5; rowLoop L b 6; rowLoop L b 7

/-- The kernel's body by its phases. -/
def phases : PR F L PUnit := do
  startIn L 0 0
  startIn L 1 1; waitIn L 0 0; rows L 0; startOut L 0 0
  startIn L 0 2; waitIn L 1 1; rows L 1; startOut L 1 1
  startIn L 1 3; waitIn L 0 2; waitOut L 0 0; rows L 0; startOut L 0 2
  startIn L 0 4; waitIn L 1 3; waitOut L 1 1; rows L 1; startOut L 1 3
  startIn L 1 5; waitIn L 0 4; waitOut L 0 2; rows L 0; startOut L 0 4
  startIn L 0 6; waitIn L 1 5; waitOut L 1 3; rows L 1; startOut L 1 5
  startIn L 1 7; waitIn L 0 6; waitOut L 0 4; rows L 0; startOut L 0 6
  waitIn L 1 7; waitOut L 1 5; rows L 1; startOut L 1 7
  waitOut L 0 6
  waitOut L 1 7
  pure ⟨⟩

set_option maxRecDepth 65536 in
set_option maxHeartbeats 4000000 in
/-- The printed body is its phases in order. -/
theorem body_eq_phases :
    cc0_body (F := F) L xH (Memref.isWhole_whole _) nH (Memref.isWhole_whole _) oH (Memref.isWhole_whole _)
      xB (Memref.isWhole_whole _) nB (Memref.isWhole_whole _) oB (Memref.isWhole_whole _)
      cc0_scratch3 cc0_scratch4 cc0_scratch5 cc0_scratch6 = phases L := by
  simp only [cc0_body_eq_skeleton, cc0_body_skel, k0_part1_eq_skeleton, k0_part2_eq_skeleton, k0_part3_eq_skeleton,
    k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton,
    k0_part14_eq_skeleton, k0_part15_eq_skeleton, k0_part16_eq_skeleton, k0_part17_eq_skeleton, k0_part18_eq_skeleton,
    k0_part19_eq_skeleton, k0_part1_skel, k0_part2_skel, k0_part3_skel, k0_part4_skel, k0_part5_skel, k0_part6_skel,
    k0_part7_skel, k0_part8_skel, k0_part9_skel, k0_part10_skel, k0_part11_skel, k0_part12_skel, k0_part13_skel,
    k0_part14_skel, k0_part15_skel, k0_part16_skel, k0_part17_skel, k0_part18_skel, k0_part19_skel,
    phases, startIn, waitIn, waitOut, startOut, rows, bind_assoc, pure_bind]
  rfl

end Cert.Proof.Sc

end
-- ==== Proof.T.Compute.lean ====
/-
  The rows of a slot: one trip of a row's loop writes sixteen lanes of masked, scaled values, and the loop carries
  the part of the slot already written.
-/
module

public import proofs.«01_k».proof.Proof.T.Struct

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The value -/

/-- The result at one position: the scaled value where the noise exceeds the threshold, zero elsewhere. -/
def ms (x n : F .f32) : F .f32 :=
  Scalar.select (FloatOps.cmpf .ogt n (Scalar.ofBits .f32 0x3DCCCCCD#32)) (FloatOps.mulf x (k0_pay1 (F := F))) (Scalar.ofBits .f32 0x00000000#32)

/-- What a trip stores is the result at each of its lanes. -/
theorem pay_apply (vn vx : Vec F S1x1x16 .f32) (x : S1x1x16.Idx) :
    k0_pay3 (F := F) k0_pay1 k0_pay2 vn vx x = ms (vx x) (vn x) := by
  have e : ∀ v : Vec F S1x1x16 .f32, shapeCast S1x1x16 (shapeCast S16 v shapeCasts_S1x1x16_S16) shapeCasts_S16_S1x1x16 x = v x := fun v => by
    exact congrArg v ((Shape.reshapeEquiv_reshapeEquiv _ _ x).trans (Shape.reshapeEquiv_self _ x))
  unfold k0_pay3 k0_pay2 ms
  simp only [shapeCast, select, cmpf, mulf, broadcast] at e ⊢
  exact congrArg₂ (fun p q : F .f32 => Scalar.select (FloatOps.cmpf .ogt p (Scalar.ofBits .f32 0x3DCCCCCD#32)) (FloatOps.mulf q (k0_pay1 (F := F))) (Scalar.ofBits .f32 0x00000000#32)) (e vn) (e vx)

/-- The slot with its first `j` positions (row by row) holding the result, the others as they were. -/
def part (j : ℕ) (fx fn fo : S2x8x2048.Idx → F .f32) : S2x8x2048.Idx → F .f32 := fun i =>
  if 2048 * (i 1).val + (i 2).val < j then ms (fx i) (fn i) else fo i

/-- The elements of slot `b`. -/
abbrev slotSet (b : Fin 2) : Finset S2x8x2048.Idx := (slotR b).set

/-- An index lies in slot `b` exactly when its first coordinate is `b`. -/
theorem mem_slotSet (b : Fin 2) (i : S2x8x2048.Idx) : i ∈ slotSet b ↔ (i 0).val = b.val := by
  have h1 : (i 1).val < 8 := (i 1).isLt
  have h2 : (i 2).val < 2048 := (i 2).isLt
  rw [Rect.mem_set_unit]
  constructor
  · intro h
    obtain ⟨ha, hb⟩ := h 0
    have ha : b.val ≤ (i 0).val := ha
    have hb : (i 0).val < b.val + 1 := hb
    omega
  · intro h a
    match a with
    | 0 => exact ⟨show b.val ≤ (i 0).val by omega, show (i 0).val < b.val + 1 by omega⟩
    | 1 => exact ⟨Nat.zero_le _, show (i 1).val < 0 + 8 by omega⟩
    | 2 => exact ⟨Nat.zero_le _, show (i 2).val < 0 + 2048 by omega⟩

/-- The sixteen places that trip `k` of row `r` stores to, by their coordinates. -/
theorem mem_rowR (b : Fin 2) (r : Fin 8) (k : Fin k0_t1_loop.trips) (i : S2x8x2048.Idx) :
    i ∈ (rowR b r k).set ↔ (i 0).val = b.val ∧ (i 1).val = r.val ∧ 16 * k.val ≤ (i 2).val ∧ (i 2).val < 16 * k.val + 16 := by
  rw [Rect.mem_set_unit]
  have e := rowOff_eq b r k
  have e0 : rowOff b r k 0 = b.val := by rw [e]; rfl
  have e1 : rowOff b r k 1 = r.val := by rw [e]; rfl
  have e2 : rowOff b r k 2 = 16 * k.val := by rw [e]; rfl
  constructor
  · intro h
    have h0 := h 0; have h1 := h 1; have h2 := h 2
    rw [e0] at h0; rw [e1] at h1; rw [e2] at h2
    have h0' : (i 0).val < b.val + 1 := h0.2
    have h1' : (i 1).val < r.val + 1 := h1.2
    have h2' : (i 2).val < 16 * k.val + 16 := h2.2
    have := h0.1; have := h1.1; have := h2.1
    omega
  · rintro ⟨h0, h1, h2, h3⟩ a
    match a with
    | 0 => rw [e0]; exact ⟨show b.val ≤ (i 0).val by omega, show (i 0).val < b.val + 1 by omega⟩
    | 1 => rw [e1]; exact ⟨show r.val ≤ (i 1).val by omega, show (i 1).val < r.val + 1 by omega⟩
    | 2 => rw [e2]; exact ⟨show 16 * k.val ≤ (i 2).val by omega, show (i 2).val < 16 * k.val + 16 by omega⟩

/-- The places that a trip stores to lie in its slot. -/
theorem rowR_subset (b : Fin 2) (r : Fin 8) (k : Fin k0_t1_loop.trips) : (rowR b r k).set ⊆ slotSet b := fun i hi =>
  (mem_slotSet b i).mpr ((mem_rowR b r k i).mp hi).1

/-- The elements of the third buffer under a rectangle are the rectangle's. -/
theorem oB_access_set (r : Rect S2x8x2048) : (oB.access r).set = r.set := by
  exact (View.set_slice (View.whole cc0_scratch2) r).trans Finset.map_refl

/-- A trip's store moves the written part on by its sixteen lanes. -/
theorem store_step (b : Fin 2) (r : Fin 8) (k : Fin k0_t1_loop.trips) (fx fn fo : S2x8x2048.Idx → F .f32) (i : S2x8x2048.Idx) (hi : i ∈ slotSet b) :
    (oB.access (rowR b r k)).write (Elt F) (part (2048 * r.val + 16 * k.val) fx fn fo)
      (k0_pay3 k0_pay1 k0_pay2 (nB.view.readAt (Elt F) (rowR b r k).toLoadRect fn) (xB.view.readAt (Elt F) (rowR b r k).toLoadRect fx)) Finset.univ i
      = part (2048 * r.val + 16 * (k.val + 1)) fx fn fo i := by
  have hb := (mem_slotSet b i).mp hi
  have hk : k.val < 128 := lt_of_lt_of_eq k.isLt trips_eq
  have h2 : (i 2).val < 2048 := (i 2).isLt
  by_cases hm : i ∈ (rowR b r k).set
  · obtain ⟨x, hx⟩ := LoadRect.exists_idx_of_mem _ hm
    obtain ⟨-, h1, h3, h4⟩ := (mem_rowR b r k i).mp hm
    have hx' : (oB.access (rowR b r k)).emb x = i := hx
    rw [← hx', View.write_emb_of_mem _ _ (Finset.mem_univ _), hx']
    rw [show part (2048 * r.val + 16 * (k.val + 1)) fx fn fo i = ms (fx i) (fn i) from if_pos (by omega)]
    show k0_pay3 k0_pay1 k0_pay2 (nB.view.readAt (Elt F) (rowR b r k).toLoadRect fn) (xB.view.readAt (Elt F) (rowR b r k).toLoadRect fx) x = _
    rw [pay_apply, ← hx]; rfl
  · rw [View.write_of_not_mem _ _ _ (by
      rw [View.setOn_univ]; intro h; apply hm
      rwa [oB_access_set] at h)]
    unfold part
    have hn : ¬((i 1).val = r.val ∧ 16 * k.val ≤ (i 2).val ∧ (i 2).val < 16 * k.val + 16) := fun h => hm ((mem_rowR b r k i).mpr ⟨hb, h⟩)
    have : (2048 * (i 1).val + (i 2).val < 2048 * r.val + 16 * k.val) ↔ (2048 * (i 1).val + (i 2).val < 2048 * r.val + 16 * (k.val + 1)) := by omega
    simp only [this]

/-! ## The resource algebra and the subcore -/

/-- The ghost state of the launch handshakes. -/
abbrev UH : Type := URounds (GSem nD τ sig) ℕ
/-- The ghost state of the whole program: the handshakes beside the counters of the batches. -/
abbrev UU : Type := UH × Counters

local notation "𝕄" => MT nD τ sig (HIx 1) (Elt F) ℕ UU ℕ

/-- No loop of the kernel needs a variant of its own. -/
abbrev 𝒱₀ : Variants := Variants.none

/-- The subcore of grid point `L`. -/
abbrev cV (L : grid0.Coords) : Fin τ.nSC := (L 0).castLE hcore0
/-- The subcore of a grid point. -/
abbrev jV (L : grid0.Coords) : Fin τ.nSub := (L 1).castLE hsub0
/-- The thread that runs a grid point on device `d`. -/
abbrev thr (d : Dev nD) (L : grid0.Coords) : Thread nD τ := V d (cV L) (jV L)

/-- The double buffers, as locations of the subcore. -/
abbrev xbLoc (d : Dev nD) (L : grid0.Coords) : Loc nD τ sig := (thr d L).loc cc0_scratch0
/-- The double buffer of the noise on one tile. -/
abbrev nbLoc (d : Dev nD) (L : grid0.Coords) : Loc nD τ sig := (thr d L).loc cc0_scratch1
/-- The double buffer of the result on one tile. -/
abbrev obLoc (d : Dev nD) (L : grid0.Coords) : Loc nD τ sig := (thr d L).loc cc0_scratch2

variable (d : Dev nD) (L : grid0.Coords)

/-- The weakest precondition of a program of the subcore. -/
abbrev WP {α : Type} (p : PR F L α) (Q : α → sProp 𝕄) : sProp 𝕄 :=
  wp frame (wpE (defs₀ (F := F)) 𝒱₀ (thr d L) none) Set.univ p Q

/-- What row `r` of slot `b` holds before its trip `k`. -/
abbrev rowInv (b : Fin 2) (fx fn fo : S2x8x2048.Idx → F .f32) (j : ℕ) : sProp 𝕄 :=
  iprop((xbLoc d L ↦[slotSet b]{fullShare} fx) ∗ (nbLoc d L ↦[slotSet b]{fullShare} fn) ∗ (obLoc d L ↦[slotSet b]{fullShare} part j fx fn fo))

/-- One trip of a row. -/
theorem wp_rowBody (b : Fin 2) (r : Fin 8) (k : Fin k0_t1_loop.trips) (fx fn fo : S2x8x2048.Idx → F .f32) (u : Unit) :
    rowInv d L b fx fn fo (2048 * r.val + 16 * k.val)
      ⊢ WP d L (rowBody L b r k u) fun _ => rowInv d L b fx fn fo (2048 * r.val + 16 * (k.val + 1)) := by
  unfold rowBody
  iintro ⟨Hx, Hn, Ho⟩
  have hsub : Finset.map (Function.Embedding.refl S2x8x2048.Idx) (rowR b r k).set ⊆ slotSet b := by
    rw [Finset.map_refl]; exact rowR_subset b r k
  simp only [Prog.bind_lift]
  iapply (wp_load 𝒱₀ (thr d L) none Set.univ (S := slotSet b) (q := fullShare) (f := fn) (m := nB) hsub) $$ Hn
  iintro Hn
  iapply (wp_load 𝒱₀ (thr d L) none Set.univ (S := slotSet b) (q := fullShare) (f := fx) (m := xB) hsub) $$ Hx
  iintro Hx
  iapply (wp_load 𝒱₀ (thr d L) none Set.univ (S := slotSet b) (q := fullShare) (m := oB) hsub) $$ Ho
  iintro Ho
  iapply (wp_store 𝒱₀ (thr d L) none Set.univ (m := oB) (r := rowR b r k) (S := (slotSet b : Finset (Idx ((oB.access (rowR b r k)).loc (thr d L))))) (by
    rw [View.setOn_univ, oB_access_set]; exact rowR_subset b r k)) $$ Ho
  iintro Ho
  ihave Ho := (Entails.of_eq (pointsTo_congr (ℓ := obLoc d L) (I := slotSet b) (q := fullShare) (store_step b r k fx fn fo))) $$ Ho
  rw [wp_pure]
  imodintro
  isplitl [Hx]; · iexact Hx
  isplitl [Hn]; · iexact Hn
  iexact Ho

/-- One row of a slot. -/
theorem wp_rowLoop (b : Fin 2) (r : Fin 8) (fx fn fo : S2x8x2048.Idx → F .f32) {α : Type} (kk : Unit → PR F L α) (Q : α → sProp 𝕄) :
    rowInv d L b fx fn fo (2048 * r.val)
      ⊢ iprop((rowInv d L b fx fn fo (2048 * (r.val + 1)) -∗ WP d L (kk ⟨⟩) Q) -∗ WP d L (rowLoop L b r >>= kk) Q) := by
  refine (Scf.wp_for_bind frame (wpE (defs₀ (F := F)) 𝒱₀ (thr d L) none) Set.univ _ _ _ k0_t1_ok ⟨⟩ (rowBody L b r)
    (fun k _ => rowInv d L b fx fn fo (2048 * r.val + 16 * k)) (fun k u => wp_rowBody d L b r k fx fn fo u)).trans (wand_mono_left ?_)
  iintro H %u H'
  have e : k0_t1_loop.trips = 128 := trips_eq
  iapply H
  have e' : 2048 * r.val + 16 * Scf.trips k0_t1_loop.lb k0_t1_loop.ub k0_t1_loop.st = 2048 * (r.val + 1) := by
    rw [show Scf.trips k0_t1_loop.lb k0_t1_loop.ub k0_t1_loop.st = 128 from e]; omega
  rw [e']
  iexact H'

/-- A slot holding the result everywhere. -/
def msSlot (fx fn : S2x8x2048.Idx → F .f32) : S2x8x2048.Idx → F .f32 := fun i => ms (fx i) (fn i)

/-- Before the first store the result buffer is as it was. -/
theorem part_zero (fx fn fo : S2x8x2048.Idx → F .f32) : part 0 fx fn fo = fo := funext fun _ => if_neg (Nat.not_lt_zero _)

/-- After the last store the slot holds the result everywhere. -/
theorem part_all (fx fn fo : S2x8x2048.Idx → F .f32) : part 16384 fx fn fo = msSlot fx fn := funext fun i => by
  have h1 : (i 1).val < 8 := (i 1).isLt
  have h2 : (i 2).val < 2048 := (i 2).isLt
  exact if_pos (by omega)

/-- The eight rows of a slot: whatever the third buffer's slot held, it comes to hold the result of the other two. -/
theorem wp_rows (b : Fin 2) (fx fn fo : S2x8x2048.Idx → F .f32) {α : Type} (kk : Unit → PR F L α) (Q : α → sProp 𝕄) :
    iprop((xbLoc d L ↦[slotSet b]{fullShare} fx) ∗ (nbLoc d L ↦[slotSet b]{fullShare} fn) ∗ (obLoc d L ↦[slotSet b]{fullShare} fo))
      ⊢ iprop((iprop((xbLoc d L ↦[slotSet b]{fullShare} fx) ∗ (nbLoc d L ↦[slotSet b]{fullShare} fn) ∗ (obLoc d L ↦[slotSet b]{fullShare} msSlot fx fn)) -∗ WP d L (kk ⟨⟩) Q)
        -∗ WP d L (rows L b >>= kk) Q) := by
  simp only [rows, bind_assoc]
  have e0 : rowInv d L b fx fn fo (2048 * (0 : Fin 8).val) = iprop((xbLoc d L ↦[slotSet b]{fullShare} fx) ∗ (nbLoc d L ↦[slotSet b]{fullShare} fn) ∗ (obLoc d L ↦[slotSet b]{fullShare} fo)) := by
    show rowInv d L b fx fn fo 0 = _
    unfold rowInv; rw [part_zero]
  have e1 : rowInv d L b fx fn fo (2048 * ((7 : Fin 8).val + 1)) = iprop((xbLoc d L ↦[slotSet b]{fullShare} fx) ∗ (nbLoc d L ↦[slotSet b]{fullShare} fn) ∗ (obLoc d L ↦[slotSet b]{fullShare} msSlot fx fn)) := by
    show rowInv d L b fx fn fo 16384 = _
    unfold rowInv; rw [part_all]
  rw [← e0, ← e1]
  iintro H K
  iapply (wp_rowLoop d L b 0 fx fn fo _ Q) $$ H; iintro H
  iapply (wp_rowLoop d L b 1 fx fn fo _ Q) $$ H; iintro H
  iapply (wp_rowLoop d L b 2 fx fn fo _ Q) $$ H; iintro H
  iapply (wp_rowLoop d L b 3 fx fn fo _ Q) $$ H; iintro H
  iapply (wp_rowLoop d L b 4 fx fn fo _ Q) $$ H; iintro H
  iapply (wp_rowLoop d L b 5 fx fn fo _ Q) $$ H; iintro H
  iapply (wp_rowLoop d L b 6 fx fn fo _ Q) $$ H; iintro H
  iapply (wp_rowLoop d L b 7 fx fn fo _ Q) $$ H; iintro H
  iapply K; iexact H

end Cert.Proof.Sc

end
-- ==== Proof.T.Phases.lean ====
/-
  The phases of a chunk: the fetches into a slot, their waits, and the copy out with its wait.
-/
module

public import proofs.«01_k».proof.Proof.T.Compute

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type} [FloatOps F]

local notation "𝕄" => MT nD τ sig (HIx 1) (Elt F) ℕ UU ℕ

variable (d : Dev nD) (L : grid0.Coords)

/-- The arrays, as locations of the subcore. -/
abbrev xLoc : Loc nD τ sig := (thr d L).loc main_arg0_scv
/-- The noise array, as a tile names it. -/
abbrev nLoc : Loc nD τ sig := (thr d L).loc main_arg1_scv
/-- The result array, as a tile names it. -/
abbrev oLoc : Loc nD τ sig := (thr d L).loc main_v0_scv

/-- The elements of chunk `n` of the subcore's part. -/
abbrev slabSet (n : Fin 8) : Finset S128x32768.Idx := (slabR L n).set

/-- A slot of the first double buffer covers the slot's places. -/
theorem slot_xB_set (b : Fin 2) : (slot xB b).view.set = slotSet b :=
  (View.set_reshape _ _).trans ((View.set_slice (View.whole cc0_scratch0) (slotR b)).trans Finset.map_refl)
/-- A slot of the noise's double buffer covers the slot's places. -/
theorem slot_nB_set (b : Fin 2) : (slot nB b).view.set = slotSet b :=
  (View.set_reshape _ _).trans ((View.set_slice (View.whole cc0_scratch1) (slotR b)).trans Finset.map_refl)
/-- A slot of the result's double buffer covers the slot's places. -/
theorem slot_oB_set (b : Fin 2) : (slot oB b).view.set = slotSet b :=
  (View.set_reshape _ _).trans ((View.set_slice (View.whole cc0_scratch2) (slotR b)).trans Finset.map_refl)
/-- A chunk of the first argument covers the chunk's places. -/
theorem slab_xH_set (n : Fin 8) : (slab xH L n).view.set = slabSet L n :=
  (View.set_slice (View.whole main_arg0_scv) (slabR L n)).trans Finset.map_refl
/-- A chunk of the noise covers the chunk's places. -/
theorem slab_nH_set (n : Fin 8) : (slab nH L n).view.set = slabSet L n :=
  (View.set_slice (View.whole main_arg1_scv) (slabR L n)).trans Finset.map_refl
/-- A chunk of the result covers the chunk's places. -/
theorem slab_oH_set (n : Fin 8) : (slab oH L n).view.set = slabSet L n :=
  (View.set_slice (View.whole main_v0_scv) (slabR L n)).trans Finset.map_refl

/-- A slot of zeros: what a landed fetch is written over. -/
def zeroS : S2x8x2048.Idx → F .f32 := fun _ => FloatOps.ofBits .f32 0#32

/-- Slot `b` of the first buffer with chunk `n` of `X` landed. -/
def inX (b : Fin 2) (n : Fin 8) (X : S128x32768.Idx → F .f32) : S2x8x2048.Idx → F .f32 :=
  (slot xB b).view.write (Elt F) zeroS ((slab xH L n).view.read (Elt F) X) Finset.univ
/-- Slot `b` of the second buffer with chunk `n` of `N` landed. -/
def inN (b : Fin 2) (n : Fin 8) (N : S128x32768.Idx → F .f32) : S2x8x2048.Idx → F .f32 :=
  (slot nB b).view.write (Elt F) zeroS ((slab nH L n).view.read (Elt F) N) Finset.univ

/-- What the two fetches of a chunk deliver: the slot with the chunk landed and the chunk back. -/
def inD (b : Fin 2) (n : Fin 8) (X N : S128x32768.Idx → F .f32) : Fin 2 → sProp 𝕄 := fun t => match t with
  | 0 => iprop((xbLoc d L ↦[slotSet b]{fullShare} inX L b n X) ∗ (xLoc d L ↦[slabSet L n]{fullShare} X))
  | 1 => iprop((nbLoc d L ↦[slotSet b]{fullShare} inN L b n N) ∗ (nLoc d L ↦[slabSet L n]{fullShare} N))

instance inD_storable (b : Fin 2) (n : Fin 8) (X N : S128x32768.Idx → F .f32) (t : Fin 2) :
    Storable (upEmb : UEmb _ 𝕄) (inD (F := F) d L b n X N t) := by
  match t with
  | 0 => unfold inD; infer_instance
  | 1 => unfold inD; infer_instance

/-- The units one fetch signals. -/
abbrev cIn (b : Fin 2) : ℕ := (slot xB b).view.dmaCredit

/-- A fetch signals at least one unit. -/
theorem cIn_pos (b : Fin 2) : 0 < cIn b := View.dmaCredit_pos _ (by decide)

/-- The two fetches of a chunk, issued and `u` of their units consumed. -/
abbrev InB (b : Fin 2) (n : Fin 8) (X N : S128x32768.Idx → F .f32) (k u : ℕ) : sProp 𝕄 :=
  Batch (countersEmb) (thr d L) (.dma (semIn b)) (none : HIx 1) (cIn b) (inD (F := F) d L b n X N) k u

/-- Where an unmasked write through a view lands, what was there before does not matter. -/
theorem write_base {sp : Space} {s : Shape} (v : View sig .scVector sp s .f32) (f g : v.ty.Idx → Elt F v.ty.elt) (w : s.Idx → F .f32) (i : v.ty.Idx) (hi : i ∈ v.set) :
    v.write (Elt F) f w Finset.univ i = v.write (Elt F) g w Finset.univ i := by
  obtain ⟨x, -, rfl⟩ := Finset.mem_map.mp hi
  rw [View.write_emb_of_mem _ _ (Finset.mem_univ _), View.write_emb_of_mem _ _ (Finset.mem_univ _)]

/-- Where a fetch of the first argument has landed, the slot holds the chunk, whatever it held before. -/
theorem land_x (b : Fin 2) (n : Fin 8) (X : S128x32768.Idx → F .f32) (f : S2x8x2048.Idx → F .f32) :
    (xbLoc d L ↦[slotSet b]{fullShare} ((slot xB b).view.write (Elt F) f ((slab xH L n).view.read (Elt F) X) Finset.univ) : sProp 𝕄)
      = xbLoc d L ↦[slotSet b]{fullShare} inX L b n X :=
  pointsTo_congr fun i hi => write_base (slot xB b).view f zeroS _ i (by rw [slot_xB_set]; exact hi)

/-- Where a fetch of the noise has landed, the slot holds the chunk, whatever it held before. -/
theorem land_n (b : Fin 2) (n : Fin 8) (X : S128x32768.Idx → F .f32) (f : S2x8x2048.Idx → F .f32) :
    (nbLoc d L ↦[slotSet b]{fullShare} ((slot nB b).view.write (Elt F) f ((slab nH L n).view.read (Elt F) X) Finset.univ) : sProp 𝕄)
      = nbLoc d L ↦[slotSet b]{fullShare} inN L b n X :=
  pointsTo_congr fun i hi => write_base (slot nB b).view f zeroS _ i (by rw [slot_nB_set]; exact hi)

/-- The fetches of chunk `n` into slot `b`, started. -/
theorem wp_startIn (b : Fin 2) (n : Fin 8) (X N : S128x32768.Idx → F .f32) (f g : S2x8x2048.Idx → F .f32)
    {α : Type} (kk : Unit → PR F L α) (Q : α → sProp 𝕄) :
    iprop((xLoc d L ↦[slabSet L n]{fullShare} X) ∗ (nLoc d L ↦[slabSet L n]{fullShare} N)
        ∗ (xbLoc d L ↦[slotSet b]{fullShare} f) ∗ (nbLoc d L ↦[slotSet b]{fullShare} g) ∗ semVal (thr d L, .dma (semIn b)) 0)
      ⊢ iprop((InB d L b n X N 2 0 -∗ WP d L (kk ⟨⟩) Q) -∗ WP d L (startIn L b n >>= kk) Q) := by
  unfold startIn
  simp only [Prog.bind_lift, bind_assoc]
  iintro ⟨Hx, Hn, Hf, Hg, Hs⟩ K
  imod (batch_alloc' (EC := countersEmb) (thr d L) (none : HIx 1) (cIn b) (inD (F := F) d L b n X N) (E := Set.univ)) $$ Hs with HB
  iapply (wp_dmaBatch (EC := countersEmb) 𝒱₀ (thr d L) none (src := slab xH L n) (dst := slot xB b) (none : HIx 1) (cIn b) (q := fullShare) (fs := X) (fd := f)
      (Sd := slotSet b) (D := inD (F := F) d L b n X N) (j := 0) (u := 0) rfl (slot_xB_set b).le (by decide) (Nat.zero_le _) (by
        rw [slab_xH_set]; exact sep_mono_left (Entails.of_eq (land_x d L b n X f)))) $$ [Hx Hf HB]
  · rw [slab_xH_set]
    isplitl [Hx]; · iexact Hx
    isplitl [Hf]; · iexact Hf
    iexact HB
  iintro HB
  iapply (wp_dmaBatch (EC := countersEmb) 𝒱₀ (thr d L) none (src := slab nH L n) (dst := slot nB b) (none : HIx 1) (cIn b) (q := fullShare) (fs := N) (fd := g)
      (Sd := slotSet b) (D := inD (F := F) d L b n X N) (j := 1) (u := 0) rfl (slot_nB_set b).le (by decide) (Nat.zero_le _) (by
        rw [slab_nH_set]; exact sep_mono_left (Entails.of_eq (land_n d L b n N g)))) $$ [Hn Hg HB]
  · rw [slab_nH_set]
    isplitl [Hn]; · iexact Hn
    isplitl [Hg]; · iexact Hg
    iexact HB
  iintro HB
  iapply K; iexact HB

/-- What the subcore owes, having recorded waits of its own beside those of `W`. -/
def OW (O : CellTallies nD τ sig (HIx 1)) (W : Waits sig (HIx 1)) : sProp 𝕄 :=
  iprop(∃ W' : Waits sig (HIx 1), ⌜∀ p ∈ W', p ∈ W ∨ p.2 = none⌝ ∗ owes (thr d L) O W')

variable (O : CellTallies nD τ sig (HIx 1)) (W : Waits sig (HIx 1))

/-- The fetches of chunk `n` into slot `b`, waited for: both slots hold the chunk. -/
theorem wp_waitIn (b : Fin 2) (n : Fin 8) (X N : S128x32768.Idx → F .f32)
    {α : Type} (kk : Unit → PR F L α) (Q : α → sProp 𝕄) :
    iprop(InB d L b n X N 2 0 ∗ OW (F := F) d L O W ∗ MayWaits (thr d L) (none : HIx 1) O)
      ⊢ iprop((iprop((xLoc d L ↦[slabSet L n]{fullShare} X) ∗ (nLoc d L ↦[slabSet L n]{fullShare} N)
            ∗ (xbLoc d L ↦[slotSet b]{fullShare} inX L b n X) ∗ (nbLoc d L ↦[slotSet b]{fullShare} inN L b n N) ∗ semVal (thr d L, .dma (semIn b)) 0
            ∗ OW (F := F) d L O W) -∗ WP d L (kk ⟨⟩) Q)
          -∗ WP d L (waitIn L b n >>= kk) Q) := by
  unfold waitIn OW
  simp only [Prog.bind_lift, bind_assoc]
  iintro ⟨HB, ⟨%W', %hW', HO⟩, #Hmw⟩ K
  have hp := cIn_pos b
  iapply (wp_waitBatchO (EC := countersEmb) 𝒱₀ (thr d L) none (sem := semIn b) (srcw := slab xH L n) (dstw := slot xB b) (none : HIx 1) (N := cIn b)
      rfl (D := inD (F := F) d L b n X N) (u := 0) (by omega) (O := O) (W := W')) $$ [HB HO]
  · isplitl [HB]; · iexact HB
    isplitl [HO]; · iexact HO
    iapply (MayWaits.elim (SemLoc.dma (semIn b))); iexact Hmw
  iintro ⟨HB, HO⟩
  iapply (wp_waitBatchLastO (EC := countersEmb) 𝒱₀ (thr d L) none (sem := semIn b) (srcw := slab nH L n) (dstw := slot nB b) (none : HIx 1) (N := cIn b)
      rfl hp (D := inD (F := F) d L b n X N) (u := 0 + cIn b) (by omega) (O := O)) $$ [HB HO]
  · isplitl [HB]; · iexact HB
    isplitl [HO]; · iexact HO
    iapply (MayWaits.elim (SemLoc.dma (semIn b))); iexact Hmw
  iintro ⟨HD, Hs, HO⟩
  ihave HD' := (show bigSep Finset.univ (inD (F := F) d L b n X N)
      ⊢ iprop(((xbLoc d L ↦[slotSet b]{fullShare} inX L b n X) ∗ (xLoc d L ↦[slabSet L n]{fullShare} X))
        ∗ ((nbLoc d L ↦[slotSet b]{fullShare} inN L b n N) ∗ (nLoc d L ↦[slabSet L n]{fullShare} N))) from
    Entails.of_eq (by rw [show (Finset.univ : Finset (Fin 2)) = insert 0 {1} from rfl, bigSep_insert (by decide), bigSep_singleton]; rfl)) $$ HD
  icases HD' with ⟨⟨Hf, Hx⟩, ⟨Hg, Hn⟩⟩
  iapply K
  isplitl [Hx]; · iexact Hx
  isplitl [Hn]; · iexact Hn
  isplitl [Hf]; · iexact Hf
  isplitl [Hg]; · iexact Hg
  isplitl [Hs]; · iexact Hs
  iexists _
  isplitr
  rotate_left
  · iexact HO
  · ipureintro
    intro p hp
    rcases Finset.mem_insert.mp hp with rfl | hp
    · exact .inr rfl
    rcases Finset.mem_insert.mp hp with rfl | hp
    · exact .inr rfl
    exact hW' p hp

/-- The whole result. -/
def MS (X N : S128x32768.Idx → F .f32) : S128x32768.Idx → F .f32 := fun i => ms (X i) (N i)

/-- The result of a slot is the result of its chunk, element by element. -/
theorem out_val (b : Fin 2) (n : Fin 8) (X N O₀ : S128x32768.Idx → F .f32) (i : S128x32768.Idx) (hi : i ∈ slabSet L n) :
    (slab oH L n).view.write (Elt F) O₀ ((slot oB b).view.read (Elt F) (msSlot (inX L b n X) (inN L b n N))) Finset.univ i = MS X N i := by
  rw [← slab_oH_set] at hi
  obtain ⟨x, -, hx⟩ := Finset.mem_map.mp hi
  rw [← hx, View.write_emb_of_mem _ _ (Finset.mem_univ _)]
  have e1 : inX L b n X ((slot xB b).view.emb x) = (slab xH L n).view.read (Elt F) X x := View.write_emb_of_mem _ _ (Finset.mem_univ _)
  have e2 : inN L b n N ((slot nB b).view.emb x) = (slab nH L n).view.read (Elt F) N x := View.write_emb_of_mem _ _ (Finset.mem_univ _)
  exact congrArg₂ ms e1 e2

/-- The units the copy out signals. -/
abbrev cOut (n : Fin 8) : ℕ := (slab oH L n).view.dmaCredit

/-- The copy of slot `b` out to chunk `n`, in flight: it delivers the chunk holding the result, and the slot back. -/
abbrev OutF (b : Fin 2) (n : Fin 8) (X N : S128x32768.Idx → F .f32) : sProp 𝕄 :=
  Flight (countersEmb) (thr d L) (.dma (semOut b)) (none : HIx 1) (cOut L n)
    iprop((oLoc d L ↦[slabSet L n]{fullShare} MS X N) ∗ (obLoc d L ↦[slotSet b]{fullShare} msSlot (inX L b n X) (inN L b n N)))

/-- The copy of slot `b` out to chunk `n`, started. -/
theorem wp_startOut (b : Fin 2) (n : Fin 8) (X N O₀ : S128x32768.Idx → F .f32)
    {α : Type} (kk : Unit → PR F L α) (Q : α → sProp 𝕄) :
    iprop((obLoc d L ↦[slotSet b]{fullShare} msSlot (inX L b n X) (inN L b n N)) ∗ (oLoc d L ↦[slabSet L n]{fullShare} O₀) ∗ semVal (thr d L, .dma (semOut b)) 0)
      ⊢ iprop((OutF d L b n X N -∗ WP d L (kk ⟨⟩) Q) -∗ WP d L (startOut L b n >>= kk) Q) := by
  unfold startOut
  simp only [Prog.bind_lift]
  iintro ⟨Hb, Ho, Hs⟩ K
  iapply (wp_dmaLocal (EC := countersEmb) 𝒱₀ (thr d L) none (src := slot oB b) (dst := slab oH L n) (none : HIx 1) (cOut L n) (q := fullShare)
      (fs := msSlot (inX L b n X) (inN L b n N)) (fd := O₀) (Sd := slabSet L n) rfl (View.dmaCredit_pos _ (by decide)) (slab_oH_set L n).le) $$ [Hb Ho Hs]
  · rw [slot_oB_set]
    isplitl [Hb]; · iexact Hb
    isplitl [Ho]; · iexact Ho
    iexact Hs
  iintro HF
  iapply K
  iapply (Flight_mono (EC := countersEmb) (thr d L)
    (D := iprop((oLoc d L ↦[slabSet L n]{fullShare} ((slab oH L n).view.write (Elt F) O₀ ((slot oB b).view.read (Elt F) (msSlot (inX L b n X) (inN L b n N))) Finset.univ))
      ∗ (obLoc d L ↦[(slot oB b).view.set]{fullShare} msSlot (inX L b n X) (inN L b n N)))) (by
    rw [slot_oB_set]
    exact sep_mono_left (Entails.of_eq (pointsTo_congr (ℓ := oLoc d L) (I := slabSet L n) (q := fullShare) (out_val L b n X N O₀)))))
  iexact HF

/-- The copy of slot `b` out to chunk `n`, waited for. -/
theorem wp_waitOut (b : Fin 2) (n : Fin 8) (X N : S128x32768.Idx → F .f32)
    {α : Type} (kk : Unit → PR F L α) (Q : α → sProp 𝕄) :
    iprop(OutF d L b n X N ∗ OW (F := F) d L O W ∗ MayWaits (thr d L) (none : HIx 1) O)
      ⊢ iprop((iprop((oLoc d L ↦[slabSet L n]{fullShare} MS X N) ∗ (obLoc d L ↦[slotSet b]{fullShare} msSlot (inX L b n X) (inN L b n N))
            ∗ semVal (thr d L, .dma (semOut b)) 0 ∗ OW (F := F) d L O W) -∗ WP d L (kk ⟨⟩) Q)
          -∗ WP d L (waitOut L b n >>= kk) Q) := by
  unfold waitOut OW
  simp only [Prog.bind_lift]
  iintro ⟨HF, ⟨%W', %hW', HO⟩, Hmw⟩ K
  iapply (wp_waitLocalO (EC := countersEmb) 𝒱₀ (thr d L) none (sem := semOut b) (srcw := slot oB b) (dstw := slab oH L n) (none : HIx 1) (N := cOut L n) rfl
      (O := O) (W := W')) $$ [HF HO Hmw]
  · isplitl [HF]; · iexact HF
    isplitl [HO]; · iexact HO
    iapply (MayWaits.elim (SemLoc.dma (semOut b))); iexact Hmw
  iintro ⟨⟨Ho, Hb⟩, Hs, HO⟩
  iapply K
  isplitl [Ho]; · iexact Ho
  isplitl [Hb]; · iexact Hb
  isplitl [Hs]; · iexact Hs
  iexists _
  isplitr
  rotate_left
  · iexact HO
  · ipureintro
    intro p hp
    rcases Finset.mem_insert.mp hp with rfl | hp
    · exact .inr rfl
    exact hW' p hp

end Cert.Proof.Sc

end
-- ==== Proof.T.Tile.lean ====
/-
  The task on one vector subcore: eight chunks through the two slots.
-/
module

public import proofs.«01_k».proof.Proof.T.Phases

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Tactic

variable {F : FTy → Type} [FloatOps F]

local notation "𝕄" => MT nD τ sig (HIx 1) (Elt F) ℕ UU ℕ

/-! ## Splitting the double buffers into slots -/

/-- The two slots share no place. -/
theorem slots_disjoint : ∀ i ∈ (Finset.univ : Finset (Fin 2)), ∀ j ∈ (Finset.univ : Finset (Fin 2)), i ≠ j → Disjoint (slotSet i) (slotSet j) :=
  fun i _ j _ h => Finset.disjoint_left.mpr fun x hi hj => h (Fin.ext (((mem_slotSet i x).mp hi).symm.trans ((mem_slotSet j x).mp hj)))

/-- The two slots are the whole double buffer. -/
theorem slots_cover : (Finset.univ : Finset (Fin 2)).biUnion slotSet = Finset.univ := by
  ext i
  simp only [Finset.mem_biUnion, Finset.mem_univ, true_and, iff_true]
  exact ⟨⟨(i 0).val, (i 0).isLt⟩, (mem_slotSet _ i).mpr rfl⟩

/-- Ownership of two things, spelt out. -/
theorem bigSep_two (Φ : Fin 2 → sProp 𝕄) : bigSep Finset.univ Φ = iprop(Φ 0 ∗ Φ 1) := by
  rw [show (Finset.univ : Finset (Fin 2)) = insert 0 {1} from rfl, bigSep_insert (by decide), bigSep_singleton]; rfl

/-- Ownership of eight things, spelt out. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = insert 0 (insert 1 (insert 2 (insert 3 (insert 4 (insert 5 (insert 6 {7})))))) from rfl,
    bigSep_insert (by decide), bigSep_insert (by decide), bigSep_insert (by decide), bigSep_insert (by decide), bigSep_insert (by decide),
    bigSep_insert (by decide), bigSep_insert (by decide), bigSep_singleton]; rfl

/-- A buffer held whole, in two parts. -/
theorem halves {ℓ : Loc nD τ sig} (H : Fin 2 → Finset (Idx ℓ)) (hd : ∀ i ∈ (Finset.univ : Finset (Fin 2)), ∀ j ∈ (Finset.univ : Finset (Fin 2)), i ≠ j → Disjoint (H i) (H j))
    (hc : (Finset.univ : Finset (Fin 2)).biUnion H = Finset.univ) (f : Buf (Elt F) ℓ) :
    (ℓ ↦{fullShare} f : sProp 𝕄) = iprop((ℓ ↦[H 0]{fullShare} f) ∗ (ℓ ↦[H 1]{fullShare} f)) := by
  rw [← bigSep_two (F := F) (fun i => (ℓ ↦[H i]{fullShare} f : sProp 𝕄)), ← pointsTo_biUnion Finset.univ (ℓ := ℓ) H hd, hc]

/-- Two parts of a buffer, whatever they hold, are the buffer at some contents. -/
theorem halves_join {ℓ : Loc nD τ sig} (H : Fin 2 → Finset (Idx ℓ)) (hd : ∀ i ∈ (Finset.univ : Finset (Fin 2)), ∀ j ∈ (Finset.univ : Finset (Fin 2)), i ≠ j → Disjoint (H i) (H j))
    (hc : (Finset.univ : Finset (Fin 2)).biUnion H = Finset.univ) (f g : Buf (Elt F) ℓ) :
    iprop((ℓ ↦[H 0]{fullShare} f) ∗ (ℓ ↦[H 1]{fullShare} g)) ⊢ (iprop(∃ h, ℓ ↦{fullShare} h) : sProp 𝕄) := by
  have e := bigSep_two (F := F) (fun i : Fin 2 => (ℓ ↦[H i]{fullShare} (if i = 0 then f else g) : sProp 𝕄))
  rw [if_pos rfl, if_neg (by decide)] at e
  rw [← e]
  have : Nonempty (Buf (Elt F) ℓ) := ⟨f⟩
  iintro H
  ihave H' := (pointsTo_biUnion_join (ℓ := ℓ) (q := fullShare) (Val := Elt F) Finset.univ H (fun i : Fin 2 => if i = 0 then f else g) f hd) $$ H
  icases H' with ⟨%h, -, Hh⟩
  rw [hc]
  iexists h; iexact Hh

variable (d : Dev nD) (L : grid0.Coords)

/-! ## The subcore's own semaphores and buffers -/

/-- The counter of the fetches into slot `b`, on this thread. -/
abbrev cellIn (b : Fin 2) : GSem nD τ sig := (thr d L, .dma (semIn b))
/-- The counter of the copies out of slot `b`, on this thread. -/
abbrev cellOut (b : Fin 2) : GSem nD τ sig := (thr d L, .dma (semOut b))

/-- The cells other than the four of the copies. -/
abbrev cellsRest : Finset (GSem nD τ sig) :=
  ((((ownCells (thr d L)).erase (cellIn d L 0)).erase (cellIn d L 1)).erase (cellOut d L 0)).erase (cellOut d L 1)

/-- A tile's counters at zero are its four copy counters at zero, and the others. -/
theorem ownSems0_V :
    (ownSems0 (thr d L) : sProp 𝕄)
      = iprop(semVal (cellIn d L 0) 0 ∗ semVal (cellIn d L 1) 0 ∗ semVal (cellOut d L 0) 0 ∗ semVal (cellOut d L 1) 0
          ∗ bigSep (cellsRest d L) fun g => semVal g 0) := by
  have m (s : DmaSem sig) (h : (SemLoc.dma s : SemLoc sig).isScoped .scVector = true) : ((thr d L, .dma s) : GSem nD τ sig) ∈ ownCells (thr d L) :=
    mem_ownCells.mpr ⟨rfl, h⟩
  have ne (s t : DmaSem sig) (h : s ≠ t) : ((thr d L, .dma s) : GSem nD τ sig) ≠ (thr d L, .dma t) := fun e => h (SemLoc.dma.inj (Prod.ext_iff.mp e).2)
  unfold SparseCore.Cfg.ownSems0
  rw [SparseCore.bigSep_erase' (m (semIn 0) (by decide)),
    SparseCore.bigSep_erase' (Finset.mem_erase.mpr ⟨ne (semIn 1) (semIn 0) (by decide), m (semIn 1) (by decide)⟩),
    SparseCore.bigSep_erase' (Finset.mem_erase.mpr ⟨ne (semOut 0) (semIn 1) (by decide),
      Finset.mem_erase.mpr ⟨ne (semOut 0) (semIn 0) (by decide), m (semOut 0) (by decide)⟩⟩),
    SparseCore.bigSep_erase' (Finset.mem_erase.mpr ⟨ne (semOut 1) (semOut 0) (by decide), Finset.mem_erase.mpr ⟨ne (semOut 1) (semIn 1) (by decide),
      Finset.mem_erase.mpr ⟨ne (semOut 1) (semIn 0) (by decide), m (semOut 1) (by decide)⟩⟩⟩)]

/-- The buffers other than the three double buffers. -/
abbrev refsRest : Finset (DevRef τ sig) :=
  (((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)

/-- A tile's buffers are its three double buffers, and the others. -/
theorem ownBufs_V :
    (ownBufs (thr d L) : sProp 𝕄)
      = iprop((∃ f, xbLoc d L ↦{fullShare} f) ∗ (∃ f, nbLoc d L ↦{fullShare} f) ∗ (∃ f, obLoc d L ↦{fullShare} f)
          ∗ bigSep (refsRest L) fun b => iprop(∃ f, ((d, b) : Loc nD τ sig) ↦{fullShare} f)) := by
  have m (b : Ref sig .scVector) (h : ((Proc.scVector (cV L) (jV L)).devRef b : DevRef τ sig).owner = Owner.proc (Proc.scVector (cV L) (jV L))) :=
    SparseCore.Cfg.mem_ownRefs_of_owner (p := Proc.scVector (cV L) (jV L)) (b := (Proc.scVector (cV L) (jV L)).devRef b) h
  have ne (a b : Ref sig .scVector) (h : a ≠ b) : (Proc.scVector (cV L) (jV L)).devRef a ≠ (Proc.scVector (cV L) (jV L)).devRef b :=
    fun e => h (Proc.devRef_injective _ e)
  unfold SparseCore.Cfg.ownBufs
  refine (SparseCore.bigSep_erase' (m cc0_scratch0 rfl)).trans ?_
  rw [SparseCore.bigSep_erase' (Finset.mem_erase.mpr ⟨ne cc0_scratch1 cc0_scratch0 (by decide), m cc0_scratch1 rfl⟩),
    SparseCore.bigSep_erase' (Finset.mem_erase.mpr ⟨ne cc0_scratch2 cc0_scratch1 (by decide), Finset.mem_erase.mpr ⟨ne cc0_scratch2 cc0_scratch0 (by decide), m cc0_scratch2 rfl⟩⟩)]

/-! ## The set-up of the launch -/

/-- The labels of the program's definitions. -/
abbrev ΛP (F : FTy → Type) [FloatOps F] : Labels := Pipeline.Sig Λ₀ (Fin 0) fun p => (pcfgs (F := F) p).Adm

/-- The launch's data. -/
abbrev K (F : FTy → Type) [FloatOps F] : SparseCore.Cfg τ sig (ΛP F) 1 := sc

/-! ## The task -/

/-- A subcore's chunks of the three arrays, the third at contents `O₀`. -/
abbrev tilePts (X N O₀ : S128x32768.Idx → F .f32) : sProp 𝕄 := bigSep Finset.univ fun n : Fin 8 =>
  iprop((xLoc d L ↦[slabSet L n]{fullShare} X) ∗ (nLoc d L ↦[slabSet L n]{fullShare} N) ∗ (oLoc d L ↦[slabSet L n]{fullShare} O₀))

set_option maxHeartbeats 4000000 in
/-- The phases: every chunk of the subcore's part comes to hold the result. -/
theorem wp_phases (X N O₀ : S128x32768.Idx → F .f32) (fx fn fo : S2x8x2048.Idx → F .f32) (O : CellTallies nD τ sig (HIx 1)) (W : Waits sig (HIx 1)) :
    iprop(MayWaits (thr d L) (none : HIx 1) O ∗ tilePts d L X N O₀ ∗ (xbLoc d L ↦{fullShare} fx) ∗ (nbLoc d L ↦{fullShare} fn) ∗ (obLoc d L ↦{fullShare} fo)
        ∗ semVal (cellIn d L 0) 0 ∗ semVal (cellIn d L 1) 0 ∗ semVal (cellOut d L 0) 0 ∗ semVal (cellOut d L 1) 0 ∗ OW (F := F) d L O W)
      ⊢ WP d L (phases L) fun _ => iprop(tilePts d L X N (MS X N) ∗ (∃ f, xbLoc d L ↦{fullShare} f) ∗ (∃ f, nbLoc d L ↦{fullShare} f) ∗ (∃ f, obLoc d L ↦{fullShare} f)
        ∗ semVal (cellIn d L 0) 0 ∗ semVal (cellIn d L 1) 0 ∗ semVal (cellOut d L 0) 0 ∗ semVal (cellOut d L 1) 0 ∗ OW (F := F) d L O W) := by
  unfold tilePts phases
  rw [bigSep_eight, bigSep_eight, halves (ℓ := xbLoc d L) slotSet slots_disjoint slots_cover, halves (ℓ := nbLoc d L) slotSet slots_disjoint slots_cover,
    halves (ℓ := obLoc d L) slotSet slots_disjoint slots_cover]
  iintro ⟨#Hmw, ⟨⟨Hx0, Hn0, Ho0⟩, ⟨Hx1, Hn1, Ho1⟩, ⟨Hx2, Hn2, Ho2⟩, ⟨Hx3, Hn3, Ho3⟩, ⟨Hx4, Hn4, Ho4⟩, ⟨Hx5, Hn5, Ho5⟩, ⟨Hx6, Hn6, Ho6⟩, ⟨Hx7, Hn7, Ho7⟩⟩,
    ⟨Hxa, Hxb⟩, ⟨Hna, Hnb⟩, ⟨Hoa, Hob⟩, Hia, Hib, Hta, Htb, HO⟩
  iapply (wp_startIn d L 0 0 X N _ _ _ _) $$ [Hx0 Hn0 Hxa Hna Hia]
  · isplitl [Hx0]; · iexact Hx0
    isplitl [Hn0]; · iexact Hn0
    isplitl [Hxa]; · iexact Hxa
    isplitl [Hna] <;> iassumption
  iintro HBa
  iapply (wp_startIn d L 1 1 X N _ _ _ _) $$ [Hx1 Hn1 Hxb Hnb Hib]
  · isplitl [Hx1]; · iexact Hx1
    isplitl [Hn1]; · iexact Hn1
    isplitl [Hxb]; · iexact Hxb
    isplitl [Hnb] <;> iassumption
  iintro HBb
  iapply (wp_waitIn d L O W 0 0 X N _ _) $$ [HBa HO]
  · isplitl [HBa]; · iexact HBa
    isplitl [HO]; · iexact HO
    iexact Hmw
  iintro ⟨Hx0, Hn0, Hxa, Hna, Hia, HO⟩
  iapply (wp_rows d L 0 _ _ _ _ _) $$ [Hxa Hna Hoa]
  · isplitl [Hxa]; · iexact Hxa
    isplitl [Hna] <;> iassumption
  iintro ⟨Hxa, Hna, Hoa⟩
  iapply (wp_startOut d L 0 0 X N O₀ _ _) $$ [Hoa Ho0 Hta]
  · isplitl [Hoa]; · iexact Hoa
    isplitl [Ho0] <;> iassumption
  iintro HFa
  iapply (wp_startIn d L 0 2 X N _ _ _ _) $$ [Hx2 Hn2 Hxa Hna Hia]
  · isplitl [Hx2]; · iexact Hx2
    isplitl [Hn2]; · iexact Hn2
    isplitl [Hxa]; · iexact Hxa
    isplitl [Hna] <;> iassumption
  iintro HBa
  iapply (wp_waitIn d L O W 1 1 X N _ _) $$ [HBb HO]
  · isplitl [HBb]; · iexact HBb
    isplitl [HO]; · iexact HO
    iexact Hmw
  iintro ⟨Hx1, Hn1, Hxb, Hnb, Hib, HO⟩
  iapply (wp_rows d L 1 _ _ _ _ _) $$ [Hxb Hnb Hob]
  · isplitl [Hxb]; · iexact Hxb
    isplitl [Hnb] <;> iassumption
  iintro ⟨Hxb, Hnb, Hob⟩
  iapply (wp_startOut d L 1 1 X N O₀ _ _) $$ [Hob Ho1 Htb]
  · isplitl [Hob]; · iexact Hob
    isplitl [Ho1] <;> iassumption
  iintro HFb
  iapply (wp_startIn d L 1 3 X N _ _ _ _) $$ [Hx3 Hn3 Hxb Hnb Hib]
  · isplitl [Hx3]; · iexact Hx3
    isplitl [Hn3]; · iexact Hn3
    isplitl [Hxb]; · iexact Hxb
    isplitl [Hnb] <;> iassumption
  iintro HBb
  iapply (wp_waitIn d L O W 0 2 X N _ _) $$ [HBa HO]
  · isplitl [HBa]; · iexact HBa
    isplitl [HO]; · iexact HO
    iexact Hmw
  iintro ⟨Hx2, Hn2, Hxa, Hna, Hia, HO⟩
  iapply (wp_waitOut d L O W 0 0 X N _ _) $$ [HFa HO]
  · isplitl [HFa]; · iexact HFa
    isplitl [HO]; · iexact HO
    iexact Hmw
  iintro ⟨Ho0, Hoa, Hta, HO⟩
  iapply (wp_rows d L 0 _ _ _ _ _) $$ [Hxa Hna Hoa]
  · isplitl [Hxa]; · iexact Hxa
    isplitl [Hna] <;> iassumption
  iintro ⟨Hxa, Hna, Hoa⟩
  iapply (wp_startOut d L 0 2 X N O₀ _ _) $$ [Hoa Ho2 Hta]
  · isplitl [Hoa]; · iexact Hoa
    isplitl [Ho2] <;> iassumption
  iintro HFa
  iapply (wp_startIn d L 0 4 X N _ _ _ _) $$ [Hx4 Hn4 Hxa Hna Hia]
  · isplitl [Hx4]; · iexact Hx4
    isplitl [Hn4]; · iexact Hn4
    isplitl [Hxa]; · iexact Hxa
    isplitl [Hna] <;> iassumption
  iintro HBa
  iapply (wp_waitIn d L O W 1 3 X N _ _) $$ [HBb HO]
  · isplitl [HBb]; · iexact HBb
    isplitl [HO]; · iexact HO
    iexact Hmw
  iintro ⟨Hx3, Hn3, Hxb, Hnb, Hib, HO⟩
  iapply (wp_waitOut d L O W 1 1 X N _ _) $$ [HFb HO]
  · isplitl [HFb]; · iexact HFb
    isplitl [HO]; · iexact HO
    iexact Hmw
  iintro ⟨Ho1, Hob, Htb, HO⟩
  iapply (wp_rows d L 1 _ _ _ _ _) $$ [Hxb Hnb Hob]
  · isplitl [Hxb]; · iexact Hxb
    isplitl [Hnb] <;> iassumption
  iintro ⟨Hxb, Hnb, Hob⟩
  iapply (wp_startOut d L 1 3 X N O₀ _ _) $$ [Hob Ho3 Htb]
  · isplitl [Hob]; · iexact Hob
    isplitl [Ho3] <;> iassumption
  iintro HFb
  iapply (wp_startIn d L 1 5 X N _ _ _ _) $$ [Hx5 Hn5 Hxb Hnb Hib]
  · isplitl [Hx5]; · iexact Hx5
    isplitl [Hn5]; · iexact Hn5
    isplitl [Hxb]; · iexact Hxb
    isplitl [Hnb] <;> iassumption
  iintro HBb
  iapply (wp_waitIn d L O W 0 4 X N _ _) $$ [HBa HO]
  · isplitl [HBa]; · iexact HBa
    isplitl [HO]; · iexact HO
    iexact Hmw
  iintro ⟨Hx4, Hn4, Hxa, Hna, Hia, HO⟩
  iapply (wp_waitOut d L O W 0 2 X N _ _) $$ [HFa HO]
  · isplitl [HFa]; · iexact HFa
    isplitl [HO]; · iexact HO
    iexact Hmw
  iintro ⟨Ho2, Hoa, Hta, HO⟩
  iapply (wp_rows d L 0 _ _ _ _ _) $$ [Hxa Hna Hoa]
  · isplitl [Hxa]; · iexact Hxa
    isplitl [Hna] <;> iassumption
  iintro ⟨Hxa, Hna, Hoa⟩
  iapply (wp_startOut d L 0 4 X N O₀ _ _) $$ [Hoa Ho4 Hta]
  · isplitl [Hoa]; · iexact Hoa
    isplitl [Ho4] <;> iassumption
  iintro HFa
  iapply (wp_startIn d L 0 6 X N _ _ _ _) $$ [Hx6 Hn6 Hxa Hna Hia]
  · isplitl [Hx6]; · iexact Hx6
    isplitl [Hn6]; · iexact Hn6
    isplitl [Hxa]; · iexact Hxa
    isplitl [Hna] <;> iassumption
  iintro HBa
  iapply (wp_waitIn d L O W 1 5 X N _ _) $$ [HBb HO]
  · isplitl [HBb]; · iexact HBb
    isplitl [HO]; · iexact HO
    iexact Hmw
  iintro ⟨Hx5, Hn5, Hxb, Hnb, Hib, HO⟩
  iapply (wp_waitOut d L O W 1 3 X N _ _) $$ [HFb HO]
  · isplitl [HFb]; · iexact HFb
    isplitl [HO]; · iexact HO
    iexact Hmw
  iintro ⟨Ho3, Hob, Htb, HO⟩
  iapply (wp_rows d L 1 _ _ _ _ _) $$ [Hxb Hnb Hob]
  · isplitl [Hxb]; · iexact Hxb
    isplitl [Hnb] <;> iassumption
  iintro ⟨Hxb, Hnb, Hob⟩
  iapply (wp_startOut d L 1 5 X N O₀ _ _) $$ [Hob Ho5 Htb]
  · isplitl [Hob]; · iexact Hob
    isplitl [Ho5] <;> iassumption
  iintro HFb
  iapply (wp_startIn d L 1 7 X N _ _ _ _) $$ [Hx7 Hn7 Hxb Hnb Hib]
  · isplitl [Hx7]; · iexact Hx7
    isplitl [Hn7]; · iexact Hn7
    isplitl [Hxb]; · iexact Hxb
    isplitl [Hnb] <;> iassumption
  iintro HBb
  iapply (wp_waitIn d L O W 0 6 X N _ _) $$ [HBa HO]
  · isplitl [HBa]; · iexact HBa
    isplitl [HO]; · iexact HO
    iexact Hmw
  iintro ⟨Hx6, Hn6, Hxa, Hna, Hia, HO⟩
  iapply (wp_waitOut d L O W 0 4 X N _ _) $$ [HFa HO]
  · isplitl [HFa]; · iexact HFa
    isplitl [HO]; · iexact HO
    iexact Hmw
  iintro ⟨Ho4, Hoa, Hta, HO⟩
  iapply (wp_rows d L 0 _ _ _ _ _) $$ [Hxa Hna Hoa]
  · isplitl [Hxa]; · iexact Hxa
    isplitl [Hna] <;> iassumption
  iintro ⟨Hxa, Hna, Hoa⟩
  iapply (wp_startOut d L 0 6 X N O₀ _ _) $$ [Hoa Ho6 Hta]
  · isplitl [Hoa]; · iexact Hoa
    isplitl [Ho6] <;> iassumption
  iintro HFa
  iapply (wp_waitIn d L O W 1 7 X N _ _) $$ [HBb HO]
  · isplitl [HBb]; · iexact HBb
    isplitl [HO]; · iexact HO
    iexact Hmw
  iintro ⟨Hx7, Hn7, Hxb, Hnb, Hib, HO⟩
  iapply (wp_waitOut d L O W 1 5 X N _ _) $$ [HFb HO]
  · isplitl [HFb]; · iexact HFb
    isplitl [HO]; · iexact HO
    iexact Hmw
  iintro ⟨Ho5, Hob, Htb, HO⟩
  iapply (wp_rows d L 1 _ _ _ _ _) $$ [Hxb Hnb Hob]
  · isplitl [Hxb]; · iexact Hxb
    isplitl [Hnb] <;> iassumption
  iintro ⟨Hxb, Hnb, Hob⟩
  iapply (wp_startOut d L 1 7 X N O₀ _ _) $$ [Hob Ho7 Htb]
  · isplitl [Hob]; · iexact Hob
    isplitl [Ho7] <;> iassumption
  iintro HFb
  iapply (wp_waitOut d L O W 0 6 X N _ _) $$ [HFa HO]
  · isplitl [HFa]; · iexact HFa
    isplitl [HO]; · iexact HO
    iexact Hmw
  iintro ⟨Ho6, Hoa, Hta, HO⟩
  iapply (wp_waitOut d L O W 1 7 X N _ _) $$ [HFb HO]
  · isplitl [HFb]; · iexact HFb
    isplitl [HO]; · iexact HO
    iexact Hmw
  iintro ⟨Ho7, Hob, Htb, HO⟩
  unfold WP
  rw [wp_pure]
  imodintro
  isplitl [Hx0 Hn0 Ho0 Hx1 Hn1 Ho1 Hx2 Hn2 Ho2 Hx3 Hn3 Ho3 Hx4 Hn4 Ho4 Hx5 Hn5 Ho5 Hx6 Hn6 Ho6 Hx7 Hn7 Ho7]
  · isplitl [Hx0 Hn0 Ho0]
    · isplitl [Hx0]; · iexact Hx0
      isplitl [Hn0] <;> iassumption
    isplitl [Hx1 Hn1 Ho1]
    · isplitl [Hx1]; · iexact Hx1
      isplitl [Hn1] <;> iassumption
    isplitl [Hx2 Hn2 Ho2]
    · isplitl [Hx2]; · iexact Hx2
      isplitl [Hn2] <;> iassumption
    isplitl [Hx3 Hn3 Ho3]
    · isplitl [Hx3]; · iexact Hx3
      isplitl [Hn3] <;> iassumption
    isplitl [Hx4 Hn4 Ho4]
    · isplitl [Hx4]; · iexact Hx4
      isplitl [Hn4] <;> iassumption
    isplitl [Hx5 Hn5 Ho5]
    · isplitl [Hx5]; · iexact Hx5
      isplitl [Hn5] <;> iassumption
    isplitl [Hx6 Hn6 Ho6]
    · isplitl [Hx6]; · iexact Hx6
      isplitl [Hn6] <;> iassumption
    isplitl [Hx7]; · iexact Hx7
    isplitl [Hn7] <;> iassumption
  isplitl [Hxa Hxb]
  · iapply (halves_join (ℓ := xbLoc d L) slotSet slots_disjoint slots_cover); isplitl [Hxa] <;> iassumption
  isplitl [Hna Hnb]
  · iapply (halves_join (ℓ := nbLoc d L) slotSet slots_disjoint slots_cover); isplitl [Hna] <;> iassumption
  isplitl [Hoa Hob]
  · iapply (halves_join (ℓ := obLoc d L) slotSet slots_disjoint slots_cover); isplitl [Hoa] <;> iassumption
  isplitl [Hia]; · iexact Hia
  isplitl [Hib]; · iexact Hib
  isplitl [Hta]; · iexact Hta
  isplitl [Htb] <;> iassumption

/-- The task on vector subcore `(L 0, L 1)`: it leaves the result in its chunks of the third array, its own buffers and
    semaphores as the launch wants them back. -/
theorem tile_body (hF : (K F).Facts) (X N O₀ : S128x32768.Idx → F .f32) (O : CellTallies nD τ sig (HIx 1)) (W : Waits sig (HIx 1)) (hO : ∀ g, O g none = 0) :
    iprop(levAts (K F).L (K F).lev ∗ emp ∗ tilePts d L X N O₀
        ∗ scopedBufs (thr d L) ∗ scopedSems0 (thr d L) ∗ owes (thr d L) O W)
      ⊢ wp frame (wpE (defs₀ (F := F)) 𝒱₀ (thr d L) none) Set.univ
          (cc0_body (F := F) L xH (Memref.isWhole_whole _) nH (Memref.isWhole_whole _) oH (Memref.isWhole_whole _)
            xB (Memref.isWhole_whole _) nB (Memref.isWhole_whole _) oB (Memref.isWhole_whole _) cc0_scratch3 cc0_scratch4 cc0_scratch5 cc0_scratch6)
          fun _ => iprop(tilePts d L X N (MS X N) ∗ scopedBufs (thr d L) ∗ scopedSems0 (thr d L)
            ∗ ∃ W', ⌜∀ p ∈ W', p ∈ W ∨ p.2 = none⌝ ∗ owes (thr d L) O W') := by
  rw [body_eq_phases, (K F).scopedBufs_V hF d (cV L) (jV L), SparseCore.Cfg.scopedSems0_V (Val := Elt F) d (cV L) (jV L), ownSems0_V, ownBufs_V]
  iintro ⟨Hlv, -, HT, ⟨⟨%fx, Hx⟩, ⟨%fn, Hn⟩, ⟨%fo, Ho⟩, Hbufs⟩, ⟨Hia, Hib, Hta, Htb, Hsems⟩, HO⟩
  ihave Hmw := (show levAts (K F).L (K F).lev ⊢ MayWaits (thr d L) (none : HIx 1) O from
    (K F).mayWaits_none (thr := thr d L) hO) $$ Hlv
  iapply (wp_wand frame (wpE (defs₀ (F := F)) 𝒱₀ (thr d L) none) Set.univ) $$ [Hmw HT Hx Hn Ho Hia Hib Hta Htb HO]
  · iapply (wp_phases d L X N O₀ fx fn fo O W)
    isplitl [Hmw]; · iexact Hmw
    isplitl [HT]; · iexact HT
    isplitl [Hx]; · iexact Hx
    isplitl [Hn]; · iexact Hn
    isplitl [Ho]; · iexact Ho
    isplitl [Hia]; · iexact Hia
    isplitl [Hib]; · iexact Hib
    isplitl [Hta]; · iexact Hta
    isplitl [Htb]; · iexact Htb
    unfold OW
    iexists W
    isplitr
    · ipureintro; exact fun p hp => .inl hp
    · iexact HO
  iintro %_ ⟨HT, Hx, Hn, Ho, Hia, Hib, Hta, Htb, HO⟩
  isplitl [HT]; · iexact HT
  isplitl [Hx Hn Ho Hbufs]
  · isplitl [Hx]; · iexact Hx
    isplitl [Hn]; · iexact Hn
    isplitl [Ho] <;> iassumption
  isplitl [Hia Hib Hta Htb Hsems]
  · isplitl [Hia]; · iexact Hia
    isplitl [Hib]; · iexact Hib
    isplitl [Hta]; · iexact Hta
    isplitl [Htb] <;> iassumption
  unfold OW
  iexact HO

end Cert.Proof.Sc

end
-- ==== Proof.T.Launch.lean ====
/-
  The launch: the arrays split over the subcores and joined again, and the program's run.
-/
module

public import proofs.«01_k».proof.Proof.T.Tile

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The parts of an array -/

/-- The grid point of core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- Where a chunk starts: subcore `s` has rows from `8 s`, core `c` columns from `16384 c`, chunk `n` from `2048 n` on. -/
theorem chunk_off : ∀ (c : Fin 2) (s : Fin 16) (n : Fin 8),
    k0_off1 (coordsV c s) (BitVec.ofNat 32 (2048 * n.val)) = ![8 * s.val, 16384 * c.val + 2048 * n.val] := by
  decide +kernel

/-- The chunk of a core, a subcore and a number, by the coordinates of its places. -/
theorem mem_chunk (c : Fin 2) (s : Fin 16) (n : Fin 8) (i : S128x32768.Idx) :
    i ∈ slabSet (coordsV c s) n ↔ (8 * s.val ≤ (i 0).val ∧ (i 0).val < 8 * s.val + 8)
      ∧ (16384 * c.val + 2048 * n.val ≤ (i 1).val ∧ (i 1).val < 16384 * c.val + 2048 * n.val + 2048) := by
  have e0 : k0_off1 (coordsV c s) (BitVec.ofNat 32 (2048 * n.val)) 0 = 8 * s.val := by rw [chunk_off]; rfl
  have e1 : k0_off1 (coordsV c s) (BitVec.ofNat 32 (2048 * n.val)) 1 = 16384 * c.val + 2048 * n.val := by rw [chunk_off]; rfl
  rw [Rect.mem_set_unit]
  constructor
  · intro h
    have h0 := h 0; have h1 := h 1
    rw [e0] at h0; rw [e1] at h1
    exact ⟨h0, h1⟩
  · rintro ⟨h0, h1⟩ a
    match a with
    | 0 => rw [e0]; exact h0
    | 1 => rw [e1]; exact h1

/-- The chunks by core, subcore and number. -/
abbrev chunk (p : Fin 2 × Fin 16 × Fin 8) : Finset S128x32768.Idx := slabSet (coordsV p.1 p.2.1) p.2.2

/-- Two different chunks share no place. -/
theorem chunks_disjoint : ∀ p ∈ (Finset.univ : Finset (Fin 2 × Fin 16 × Fin 8)), ∀ p' ∈ (Finset.univ : Finset (Fin 2 × Fin 16 × Fin 8)),
    p ≠ p' → Disjoint (chunk p) (chunk p') := by
  rintro ⟨c, s, n⟩ - ⟨c', s', n'⟩ - h
  refine Finset.disjoint_left.mpr fun i hi hi' => h ?_
  obtain ⟨⟨h1, h2⟩, h3, h4⟩ := (mem_chunk c s n i).mp hi
  obtain ⟨⟨h1', h2'⟩, h3', h4'⟩ := (mem_chunk c' s' n' i).mp hi'
  have hn := n.isLt; have hn' := n'.isLt
  have es : s = s' := Fin.ext (by omega)
  have ec : c = c' := Fin.ext (by omega)
  have en : n = n' := Fin.ext (by omega)
  rw [es, ec, en]

/-- Every place of the array is in some chunk. -/
theorem chunks_cover : (Finset.univ : Finset (Fin 2 × Fin 16 × Fin 8)).biUnion chunk = Finset.univ := by
  ext i
  have h0 : (i 0).val < 128 := (i 0).isLt
  have h1 : (i 1).val < 32768 := (i 1).isLt
  simp only [Finset.mem_biUnion, Finset.mem_univ, true_and, iff_true]
  refine ⟨(⟨(i 1).val / 16384, by omega⟩, ⟨(i 0).val / 8, by omega⟩, ⟨(i 1).val % 16384 / 2048, by omega⟩), (mem_chunk _ _ _ i).mpr ?_⟩
  dsimp only
  omega

/-- A buffer held whole is its parts, by core, subcore and number. -/
theorem parts {ℓ : Loc nD τ sig} (H : Fin 2 × Fin 16 × Fin 8 → Finset (Idx ℓ))
    (hd : ∀ p ∈ (Finset.univ : Finset (Fin 2 × Fin 16 × Fin 8)), ∀ p' ∈ (Finset.univ : Finset (Fin 2 × Fin 16 × Fin 8)), p ≠ p' → Disjoint (H p) (H p'))
    (hc : (Finset.univ : Finset (Fin 2 × Fin 16 × Fin 8)).biUnion H = Finset.univ) (f : Buf (Elt F) ℓ) :
    (ℓ ↦{fullShare} f : sProp 𝕄) = bigSep Finset.univ fun p => ℓ ↦[H p]{fullShare} f := by
  rw [← pointsTo_biUnion Finset.univ (ℓ := ℓ) H hd, hc]

/-! ## The launch's data -/

/-- The definitions of the program, with those of the pipeline (of which it has none). -/
abbrev D (F : FTy → Type) [FloatOps F] : Defs nD τ sig (Elt F) (ΛP F) := Pipeline.defs pcfgs defs₀
/-- The variants of the kernel, lifted to the program. -/
abbrev 𝒱 : Variants := 𝒱₀.lift
/-- The variant at which the tiles start. -/
abbrev v₀ : 𝒱.V := Sum.inl none

/-- The side conditions of the launch hold. -/
theorem facts : (K F).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Where the handshakes' ghost state lies in the program's. -/
abbrev EH : Emb UH (MT nD τ sig (HIx 1) (Elt F) ℕ UU ℕ) := embL

variable (m : (ℓ : Loc nD τ sig) → Buf (Elt F) ℓ) (ρ : Dev nD → PrngReg)

/-- The arrays, as locations of the device. -/
abbrev aLoc (d : Dev nD) : Loc nD τ sig := (SparseCore.T d).loc main_arg0
/-- The second argument, the noise, on device `d`. -/
abbrev bLoc (d : Dev nD) : Loc nD τ sig := (SparseCore.T d).loc main_arg1
/-- The result array on device `d`. -/
abbrev rLoc (d : Dev nD) : Loc nD τ sig := (SparseCore.T d).loc main_v0

/-- The first argument, the second, the result's contents at the start, and the result. -/
abbrev X₀ (d : Dev nD) : S128x32768.Idx → F .f32 := m (aLoc d)
/-- What the noise array holds at the start. -/
abbrev N₀ (d : Dev nD) : S128x32768.Idx → F .f32 := m (bLoc d)
/-- What the result array holds at the start. -/
abbrev R₀ (d : Dev nD) : S128x32768.Idx → F .f32 := m (rLoc d)
/-- What the result array holds at the end: the result of the two arguments. -/
abbrev R₁ (d : Dev nD) : S128x32768.Idx → F .f32 := MS (X₀ m d) (N₀ m d)

/-- Each subcore takes its chunks of the three arrays and brings them back, the third's holding the result; each core
    takes its subcores' chunks. -/
def P : (K F).Pay (nD := nD) (Val := Elt F) (Name := ℕ) (U := UU) where
  st := fun q d c => match q with
    | 0 => bigSep Finset.univ fun i : Fin 16 => tilePts d (coordsV c i) (X₀ m d) (N₀ m d) (R₀ m d)
  dn := fun q d c => match q with
    | 0 => bigSep Finset.univ fun i : Fin 16 => tilePts d (coordsV c i) (X₀ m d) (N₀ m d) (R₁ m d)
  go := fun q d c i => match q with | 0 => tilePts d (coordsV c i) (X₀ m d) (N₀ m d) (R₀ m d)
  td := fun q d c i => match q with | 0 => tilePts d (coordsV c i) (X₀ m d) (N₀ m d) (R₁ m d)
  x := fun _ _ => iprop(emp)

instance P_storable : (P m).IsStorable where
  st q d c := match q with
    | 0 => (inferInstance : BI.Storable (upEmb : UEmb _ 𝕄) (bigSep Finset.univ fun i : Fin 16 => tilePts d (coordsV c i) (X₀ m d) (N₀ m d) (R₀ m d)))
  dn q d c := match q with
    | 0 => (inferInstance : BI.Storable (upEmb : UEmb _ 𝕄) (bigSep Finset.univ fun i : Fin 16 => tilePts d (coordsV c i) (X₀ m d) (N₀ m d) (R₁ m d)))
  go q d c i := match q with
    | 0 => (inferInstance : BI.Storable (upEmb : UEmb _ 𝕄) (tilePts d (coordsV c i) (X₀ m d) (N₀ m d) (R₀ m d)))
  td q d c i := match q with
    | 0 => (inferInstance : BI.Storable (upEmb : UEmb _ 𝕄) (tilePts d (coordsV c i) (X₀ m d) (N₀ m d) (R₁ m d)))

/-! ## The obligations -/

/-- What a tile is told to run is the kernel's body at its grid point. -/
theorem defs₀_vector (c : Fin τ.nSC) (s : Fin τ.nSub) :
    defs₀ (F := F) (.scVector c s) 0 ()
      = SparseCore.onTile hcore0 hsub0 (fun c s => cc0_body (coordsV c s)
          xH (Memref.isWhole_whole _) nH (Memref.isWhole_whole _) oH (Memref.isWhole_whole _)
          xB (Memref.isWhole_whole _) nB (Memref.isWhole_whole _) oB (Memref.isWhole_whole _) cc0_scratch3 cc0_scratch4 cc0_scratch5 cc0_scratch6) ⟨⟩ c s := rfl

/-- A tile that waited on nothing new has waited on nothing that the launch forbids. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each tile's task: from its chunks of the three arrays, it ends with its chunks of the result written. -/
theorem tileObl (hF : (K F).Facts) : (K F).TileObl (D F) 𝒱 (P m) v₀ 0 := by
  intro d c i O W hO _ _
  simp only [show (P m).ox = fun _ _ => 0 from rfl, add_zero]
  have hci : ((K F).core 0 c).val < grid0.bound 0 ∧ ((K F).sub 0 i).val < grid0.bound 1 := ⟨c.isLt, i.isLt⟩
  change _ ⊢ wp _ _ _ (Pipeline.liftProg (defs₀ (F := F) (.scVector ((K F).core 0 c) ((K F).sub 0 i)) 0 ())) _
  refine BI.Entails.trans ?_ (Pipeline.wp_liftProg (D F) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (X₀ m d) (N₀ m d) (R₀ m d) O W hO).trans (wp_mono frame _ _ fun _ => obl_post)

/-- A core's share of the arrays is its tiles' shares, before the call and after it. -/
theorem vecSplit : (K F).VecSplit' (P m) 0 := by
  intro d c
  show (bigSep Finset.univ fun i : Fin 16 => tilePts d (coordsV c i) (X₀ m d) (N₀ m d) (R₀ m d)) ⊢ |={Set.univ}=> iprop(
      (bigSep Finset.univ fun i : Fin 16 => tilePts d (coordsV c i) (X₀ m d) (N₀ m d) (R₀ m d))
      ∗ ((bigSep Finset.univ fun i : Fin 16 => tilePts d (coordsV c i) (X₀ m d) (N₀ m d) (R₁ m d))
          -∗ (bigSep Finset.univ fun i : Fin 16 => tilePts d (coordsV c i) (X₀ m d) (N₀ m d) (R₁ m d))))
  iintro H; imodintro
  isplitl [H]; · iexact H
  iintro H; iexact H

/-! ## The ghost state at the launch -/

/-- The ghost state at the launch: the handshakes' cells and tokens, and no batch begun. -/
def u₀ (F : FTy → Type) [FloatOps F] : UU := (initOf (K F).hsCells (K F).hsToks, 1)

/-- Nothing, many times over, is nothing. -/
theorem bigSep_nothing {I : Type} (s : Finset I) : (bigSep s fun _ => iprop(emp)) = (iprop(emp) : sProp 𝕄) := bigSep_emp_const s

/-- That ghost state gives the handshakes what they start from; the rest starts from nothing. -/
theorem hu₀ : (ownU (u₀ F) : sProp 𝕄)
    ⊢ |={Set.univ}=> iprop(BI.own (EH (initOf (K F).hsCells (K F).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K F).hsCells (K F).hsToks) (1 : Counters)) $$ Hu
  icases H with ⟨HH, -⟩
  imodintro
  isplitl [HH]; · iexact HH
  isplitr; · rw [bigSep_nothing]; iempintro
  rw [show (bigSep Finset.univ fun t : Thread nD τ => bigSep Finset.univ fun q : Fin 1 => (P m).x q t) = bigSep Finset.univ fun _ => iprop(emp) from
    bigSep_congr fun _ _ => bigSep_univ_of_subsingleton (0 : Fin 1), bigSep_nothing]
  iempintro

/-! ## The main program -/

/-- The buffers that the main program holds are the two arguments and the result. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ rLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The three arrays held whole are every subcore's chunks of them. -/
theorem arrays_eq (d : Dev nD) (X N R : S128x32768.Idx → F .f32) :
    (iprop((aLoc d ↦{fullShare} X) ∗ (bLoc d ↦{fullShare} N) ∗ rLoc d ↦{fullShare} R) : sProp 𝕄)
      = bigSep Finset.univ fun c : Fin 2 => bigSep Finset.univ fun i : Fin 16 => tilePts d (coordsV c i) X N R := by
  rw [parts (ℓ := aLoc d) chunk chunks_disjoint chunks_cover, parts (ℓ := bLoc d) chunk chunks_disjoint chunks_cover,
    parts (ℓ := rLoc d) chunk chunks_disjoint chunks_cover, ← bigSep_sep', ← bigSep_sep', bigSep_univ_prod]
  refine bigSep_congr fun c _ => ?_
  rw [bigSep_univ_prod]

/-- What the call takes from the main program: the three arrays as they are at the start. -/
theorem st0_eq (d : Dev nD) : (bigSep Finset.univ fun c : Fin ((K F).nCore 0) => (P m).st 0 d c)
    = iprop((aLoc d ↦{fullShare} X₀ m d) ∗ (bLoc d ↦{fullShare} N₀ m d) ∗ rLoc d ↦{fullShare} R₀ m d) := (arrays_eq d _ _ _).symm
/-- What the call gives back: the arguments as they were, and the result. -/
theorem dn0_eq (d : Dev nD) : (bigSep Finset.univ fun c : Fin ((K F).nCore 0) => (P m).dn 0 d c)
    = iprop((aLoc d ↦{fullShare} X₀ m d) ∗ (bLoc d ↦{fullShare} N₀ m d) ∗ rLoc d ↦{fullShare} R₁ m d) := (arrays_eq d _ _ _).symm

/-- What the main program holds when it ends. -/
abbrev FIN (d : Dev nD) : sProp 𝕄 := iprop((aLoc d ↦{fullShare} X₀ m d) ∗ (bLoc d ↦{fullShare} N₀ m d) ∗ rLoc d ↦{fullShare} R₁ m d)

/-- The main program on device `d`: the one call, which leaves the result in the third array. -/
theorem hmain (κ : GSem nD τ sig → ℕ) (d : Dev nD) :
    iprop((K F).ctx EH (P m) κ ∗ (K F).tcSt EH d 0 ∗ (K F).tcRes m ρ d ∗ emp)
      ⊢ wp frame (wpE ((K F).defs (D F)) 𝒱 (SparseCore.T d) none) Set.univ (main d)
          fun _ => iprop((K F).tcSt EH d 1 ∗ FIN m d ∗ (K F).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K F).wp_run (D F) 𝒱 (EH := EH) (P := P m) κ d 0) $$ [Hst Harr Hb Hts]
  isplitr; · iexact Hctx
  isplitl [Hst]; · iexact Hst
  isplitl [Harr]
  · rw [st0_eq]
    iexact Harr
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What holds of the memory at the end: the arguments as they were, the third array the result. -/
def fq (d : Dev nD) (s' : Phys nD τ sig (Elt F)) : Prop :=
  s'.mem.mem (aLoc d) = X₀ m d ∧ s'.mem.mem (bLoc d) = N₀ m d ∧ s'.mem.mem (rLoc d) = R₁ m d

set_option maxRecDepth 16384 in
/-- What the main program holds at the end is what the memory then contains. -/
theorem hfin (d : Dev nD) (s' : Phys nD τ sig (Elt F)) : iprop(FIN m d ∗ SI s') ⊢ (⌜fq m d s'⌝ : sProp 𝕄) := by
  iintro ⟨⟨Ha, Hb, Hr⟩, HSI⟩
  ihave H := (persistent_entails_right (SI_pointsTo_agree (st := s') (ℓ := aLoc d) (I := Finset.univ) (q := fullShare) (f := X₀ m d))) $$ [HSI Ha]
  · isplitl [HSI] <;> iassumption
  icases H with ⟨%h1, HSI, -⟩
  ihave H := (persistent_entails_right (SI_pointsTo_agree (st := s') (ℓ := bLoc d) (I := Finset.univ) (q := fullShare) (f := N₀ m d))) $$ [HSI Hb]
  · isplitl [HSI] <;> iassumption
  icases H with ⟨%h2, HSI, -⟩
  ihave H := (SI_pointsTo_agree (st := s') (ℓ := rLoc d) (I := Finset.univ) (q := fullShare) (f := R₁ m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- The end of a run: on every device the arguments as they were, the third array the result; every semaphore at zero. -/
def QC : PUnit × MemSt nD τ sig (Elt F) → Prop := fun r =>
  (∀ c : Dev nD, r.2.mem (aLoc c) = X₀ m c ∧ r.2.mem (bLoc c) = N₀ m c ∧ r.2.mem (rLoc c) = R₁ m c) ∧ r.2.sem = fun _ => 0

/-- Every run of the kernel ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K F) (D := D F) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ F) (sep_elim_left.trans (hu₀ m)) (hmain m ρ) (fq m) (hfin m) (QC m) (fun _ h hz => ⟨h, hz⟩)

end Cert.Proof.Sc

end
-- ==== Proof.T.Reference.lean ====
/-
  The value of the reference over the reals. The threshold table is constant, so the ranks that index it do not matter
  beyond being in range; its mean is the constant itself; and what is left is the kernel's own expression.
-/
module

public import proofs.«01_k».proof.Proof.T.Phases
public import proofs.«01_k».proof.Proof.Gen.ReferenceIdeal.Run
public import Idealize.ShloMosaic.Lib.ReduceAll
public import Idealize.ShloMosaic.Lib.IdealHost

@[expose] public section

set_option maxRecDepth 8192

noncomputable section

namespace Cert.Proof.Sc.Ref

open Cert.ReferenceIdeal Cert.ReferenceIdeal.Gen
open Idealize.ShloMosaic Idealize.SL.Sem

/-! ## The constants -/

/-- The threshold: the real number the single-precision pattern nearest one tenth denotes. -/
def tenth : ℝ := 13421773 / 134217728

/-- The pattern of the threshold denotes that real. -/
theorem bits_tenth : Ideal.ofBits .f32 0x3DCCCCCD#32 = ((tenth : ℝ) : EReal) := by
  unfold tenth
  simp [Ideal.ofBits, Ideal.ieee, -EReal.coe_mul]; norm_num

/-- The last position of a row of the table, as a real. -/
theorem bits_last : Ideal.ofBits .f32 0x46FFFE00#32 = ((32767 : ℝ) : EReal) := by
  simp [Ideal.ofBits, Ideal.ieee, -EReal.coe_mul]; norm_num

/-- The length of a row, as a real. -/
theorem bits_length : Ideal.ofBits .f32 0x47000000#32 = ((32768 : ℝ) : EReal) := by
  simp [Ideal.ofBits, Ideal.ieee, -EReal.coe_mul]; norm_num

/-! ## The ranks are in range -/

/-- What a sort of two arrays carries along is, at every index, an entry of the carried array. -/
theorem sort2_snd_entry {s : Shape} (d : Nat) {α β : Type} (cmp : α × β → α × β → BitVec 1) (x : s.Idx → α)
    (y : s.Idx → β) (j : s.Idx) : ∃ i, (Host.sort2 s d cmp x y).2 j = y i := by
  unfold Host.sort2
  split
  · exact ⟨_, rfl⟩
  · exact ⟨j, rfl⟩

/-- Positions along a row stay below the row's length however a sort moves them. -/
theorem carried_lt {α : Type} (cmp : α × BitVec 32 → α × BitVec 32 → BitVec 1) (x : S128x32768.Idx → α)
    (j : S128x32768.Idx) : ((Host.sort2 S128x32768 1 cmp x (iotaInDim S128x32768 32 1)).2 j).toNat < 32768 := by
  obtain ⟨i, h⟩ := sort2_snd_entry 1 cmp x (iotaInDim S128x32768 32 1) j
  rw [h]
  have hi : (i 1).val < 32768 := (i 1).isLt
  show (BitVec.ofNat 32 (i 1).val).toNat < 32768
  rw [BitVec.toNat_ofNat]; omega

/-- A word below 32768 is its own value read with a sign. -/
theorem toInt_of_lt {b : BitVec 32} (h : b.toNat < 32768) : b.toInt = (b.toNat : ℤ) := by
  rw [BitVec.toInt_eq_toNat_cond, if_pos (by omega)]

/-- Counting negative positions from the end changes nothing where no position is negative. -/
theorem wrap_eq (v : IVec S128x32768 32) (hv : ∀ j, (v j).toNat < 32768) :
    select (cmpi .slt v (broadcastInDim S128x32768 ![] bcast_S_S128x32768 (constantI S_ 32 0#32)))
      (addi v (broadcastInDim S128x32768 ![] bcast_S_S128x32768 (constantI S_ 32 32768#32))) v = v := by
  funext j
  show Scalar.select (IntOp.cmpi .slt (v j) 0#32) (IntOp.addi (v j) 32768#32) (v j) = v j
  have h : (v j).slt 0#32 = false := by
    rw [BitVec.slt, decide_eq_false_iff_not, toInt_of_lt (hv j)]
    simp
  simp [Scalar.select, IntOp.cmpi, h]

/-! ## The table is constant -/

/-- A concatenation of pieces that hold one value everywhere holds it everywhere. -/
theorem concatenate_const {α : Type} (t : Shape) (a : Fin t.rank) (xs : List ((s : Shape) × (s.Idx → α)))
    (h : Shape.Concatenates (xs.map (·.1)) t a) (c : α) (hc : ∀ p ∈ xs, ∀ i, p.2 i = c) (j : t.Idx) :
    concatenate t a xs h j = c := by
  unfold concatenate
  exact hc _ (List.getElem_mem _) _

/-- The straight line from the threshold to itself stays at the threshold. -/
theorem line_const (k : ℝ) :
    ((tenth : ℝ) : EReal) * (1 - Ideal.div ((k : ℝ) : EReal) ((32767 : ℝ) : EReal))
      + ((tenth : ℝ) : EReal) * Ideal.div ((k : ℝ) : EReal) ((32767 : ℝ) : EReal) = ((tenth : ℝ) : EReal) := by
  rw [Ideal.div_coe (by norm_num), ← EReal.coe_one]
  simp only [← EReal.coe_mul, ← EReal.coe_sub, ← EReal.coe_add]
  congr 1; ring

/-- The table of thresholds, by position in the row, is the threshold everywhere. -/
theorem table_const (i : S32768.Idx) :
    concatenate S32768 0 [⟨S32767, (addf (mulf (broadcastInDim S32767 ![0] bcast_S1_S32767_0 (shapeCast _ (id (constant (F := Ideal) S_ .f32 0x3DCCCCCD#32)) shapeCasts_S_S1)) (subf (broadcastInDim S32767 ![] bcast_S_S32767 (constant S_ .f32 0x3F800000#32)) (Host.divf (sitofp .f32 (iotaInDim S32767 32 0)) (broadcastInDim S32767 ![] bcast_S_S32767 (constant S_ .f32 0x46FFFE00#32))))) (mulf (broadcastInDim S32767 ![0] bcast_S1_S32767_0 (shapeCast _ (id (constant S_ .f32 0x3DCCCCCD#32)) shapeCasts_S_S1)) (Host.divf (sitofp .f32 (iotaInDim S32767 32 0)) (broadcastInDim S32767 ![] bcast_S_S32767 (constant S_ .f32 0x46FFFE00#32)))))⟩, ⟨S1, (broadcastInDim S1 ![] bcast_S_S1 (id (constant S_ .f32 0x3DCCCCCD#32)))⟩] concatenates_S32767_S1_S32768_d0 i
      = ((tenth : ℝ) : EReal) := by
  refine concatenate_const _ _ _ _ _ ?_ i
  intro p hp
  rcases List.mem_cons.1 hp with rfl | hp
  · intro k
    show Ideal.ofBits .f32 0x3DCCCCCD#32 * (Ideal.ofBits .f32 0x3F800000#32
          - Ideal.div (((BitVec.ofNat 32 (k 0).val).toInt : ℝ) : EReal) (Ideal.ofBits .f32 0x46FFFE00#32))
        + Ideal.ofBits .f32 0x3DCCCCCD#32 * Ideal.div (((BitVec.ofNat 32 (k 0).val).toInt : ℝ) : EReal) (Ideal.ofBits .f32 0x46FFFE00#32)
      = ((tenth : ℝ) : EReal)
    rw [bits_tenth, bits_last, Ideal.ofBits_one_f32]
    exact line_const _
  · obtain rfl := List.mem_singleton.1 hp
    intro k
    exact bits_tenth

/-- Taking from a constant table at positions in range gives the constant: no position is out of range, so nothing is
    replaced by the filler. -/
theorem take_const (v : IVec S128x32768 32) (hv : ∀ j, (v j).toNat < 32768) (tbl : FVec Ideal S32768 .f32)
    (htbl : ∀ i, tbl i = ((tenth : ℝ) : EReal)) (fill : FVec Ideal S128x32768 .f32) :
    select (Host.reduce IntOp.andi (andi (cmpi .sge (shapeCast S128x32768x1 v shapeCasts_S128x32768_S128x32768x1) (broadcastInDim S128x32768x1 ![] bcast_S_S128x32768x1 (constantI S_ 32 0#32))) (cmpi .sle (shapeCast S128x32768x1 v shapeCasts_S128x32768_S128x32768x1) (broadcastInDim S128x32768x1 ![0, 1, 2] bcast_S1x1x1_S128x32768x1_0_1_2 (broadcastInDim S1x1x1 ![2] bcast_S1_S1x1x1_2 (constantI S1 32 32767#32))))) (constantI S_ 1 1#1) reducesTo_S128x32768x1_S128x32768_d2 h_S_)
      (Host.gather gather_S128x32768_S128x32768x1_S128x32768_n_1_0_0_1_2_11 (broadcastInDim S128x32768 ![1] bcast_S32768_S128x32768_1 tbl) (shapeCast S128x32768x1 v shapeCasts_S128x32768_S128x32768x1)) fill
      = fun _ => ((tenth : ℝ) : EReal) := by
  generalize hi : shapeCast S128x32768x1 v shapeCasts_S128x32768_S128x32768x1 = idx
  have hidx : ∀ k, (idx k).toNat < 32768 := fun k => by rw [← hi]; exact hv _
  funext j
  show Scalar.select (Host.reduce IntOp.andi _ _ _ _ j) _ (fill j) = _
  rw [Host.reduce_andi_one _ _ _ _ j rfl]
  · exact htbl _
  · intro k
    show IntOp.andi (IntOp.cmpi .sge (idx k) 0#32) (IntOp.cmpi .sle (idx k) 32767#32) = 1#1
    have h := hidx k
    have h1 : (0#32).sle (idx k) = true := by
      rw [BitVec.sle, decide_eq_true_iff, toInt_of_lt h]
      simp
    have h2 : (idx k).sle 32767#32 = true := by
      rw [BitVec.sle, decide_eq_true_iff, toInt_of_lt h]
      have e : (32767#32).toInt = 32767 := by decide
      rw [e]; omega
    simp [IntOp.cmpi, IntOp.andi, h1, h2]

/-- A row of thresholds sums to its length times the threshold. -/
theorem row_sum :
    Host.reduceAdd (F := Ideal) (φ := .f32) (fun _ => ((tenth : ℝ) : EReal)) (constant S_ .f32 0x00000000#32)
      reducesTo_S128x32768_S128_d1 h_S_ = fun _ => ((32768 * tenth : ℝ) : EReal) := by
  funext j
  have hr : S128x32768.Reduces [1] S128 := by decide
  show Ideal.hostReduceAdd reducesTo_S128x32768_S128_d1 _ (Ideal.ofBits .f32 0x00000000#32) j = _
  rw [Ideal.hostReduceAdd_single _ hr, Ideal.ofBits_zero_f32, zero_add, Finset.sum_const, Finset.card_univ, Fintype.card_fin,
    ← EReal.coe_nsmul, nsmul_eq_mul]
  norm_num

/-! ## The value -/

/-- Masking by a factor of one or zero and dividing by one minus the row's mean threshold is the kernel's select of the
    product with the reciprocal. -/
theorem mask_scale (x n : EReal) :
    Ideal.div (x * (((Ideal.cmp .ogt n ((tenth : ℝ) : EReal)).toNat : ℝ) : EReal))
        (Ideal.ofBits .f32 0x3F800000#32 - Ideal.div ((32768 * tenth : ℝ) : EReal) (Ideal.ofBits .f32 0x47000000#32))
      = ms (F := Ideal) x n := by
  have hne : ((1 - tenth : ℝ) : EReal) ≠ 0 := by
    rw [← EReal.coe_zero, Ne, EReal.coe_eq_coe_iff]; unfold tenth; norm_num
  have hd : Ideal.ofBits .f32 0x3F800000#32 - Ideal.div ((32768 * tenth : ℝ) : EReal) (Ideal.ofBits .f32 0x47000000#32)
      = ((1 - tenth : ℝ) : EReal) := by
    rw [bits_length, Ideal.ofBits_one_f32, Ideal.div_coe (by norm_num), ← EReal.coe_one, ← EReal.coe_mul, ← EReal.coe_sub]
    congr 1; ring
  have hm : ms (F := Ideal) x n
      = Scalar.select (Ideal.cmp .ogt n (Ideal.ofBits .f32 0x3DCCCCCD#32))
          (x * Ideal.div (Ideal.ofBits .f32 0x3F800000#32) (Ideal.ofBits .f32 0x3F800000#32 - Ideal.ofBits .f32 0x3DCCCCCD#32))
          (Ideal.ofBits .f32 0x00000000#32) := rfl
  have hs : (1 : EReal) - ((tenth : ℝ) : EReal) = ((1 - tenth : ℝ) : EReal) := by
    rw [← EReal.coe_one, ← EReal.coe_sub]
  rw [hd, hm, bits_tenth, Ideal.ofBits_one_f32, Ideal.ofBits_zero_f32, hs, Ideal.mul_one_div hne]
  by_cases h : ((tenth : ℝ) : EReal) < n
  · have hc : Ideal.cmp .ogt n ((tenth : ℝ) : EReal) = 1#1 := by simp [Ideal.cmp, h]
    rw [hc]; simp [Scalar.select]
  · have hc : Ideal.cmp .ogt n ((tenth : ℝ) : EReal) = 0#1 := by simp [Ideal.cmp, h]
    rw [hc, show ((0#1).toNat : ℝ) = 0 from by simp, EReal.coe_zero, mul_zero, Ideal.zero_div hne]
    simp [Scalar.select]

/-- The reference's result is the kernel's, entry by entry, of the two arguments. -/
theorem result_eq (m : (ℓ : Loc nD τ sig) → Buf (Elt Ideal) ℓ) (c : Dev nD) :
    Cert.ReferenceIdeal.Value.res_out0 m c
      = MS (F := Ideal) (m ((c.tc : Thread nD τ).loc main_arg0)) (m ((c.tc : Thread nD τ).loc main_arg1)) := by
  show Cert.ReferenceIdeal.Value.res_main_v15 m c = _
  unfold Cert.ReferenceIdeal.Value.res_main_v15
  rw [wrap_eq _ (carried_lt _ _), take_const _ (carried_lt _ _) _ table_const, row_sum]
  funext i
  exact mask_scale _ _

end Cert.Proof.Sc.Ref

end
-- ==== Proof.T.Frames.lean ====
module

public import proofs.«01_k».proof.Defs
public import proofs.«01_k».proof.Proof.T.Launch
public import proofs.«01_k».proof.Proof.Gen.Kernel
public import proofs.«01_k».proof.Proof.T.Reference

/-!
  The claims. The three frames: each program runs to its end from any memory, leaves its arguments as they were and every
  counter at zero. The value: kernel and reference, over the reals, leave the same array.
-/

@[expose] public section

set_option maxRecDepth 8192

namespace Cert.Proof.Sc

open Idealize.ShloMosaic Idealize.SL.Sem

/-- The kernel over the reals: the run of `run_main`, read at the two arguments and the counters. -/
theorem frame_ideal : Cert.quiescent_KernelIdeal := fun m ρ _ =>
  (θ_run Cert.KernelIdeal.defs _ _).mono (fun _ h => ⟨fun c => ⟨(h.1 c).1, (h.1 c).2.1⟩, h.2⟩)
    (run_main (F := Ideal) m ρ)

/-- The kernel over bit patterns: its text is the one `run_main` runs, at the float values `Bits`. -/
theorem frame_bits : Cert.quiescent_Kernel := fun m ρ _ =>
  (θ_run Cert.KernelIdeal.defs _ _).mono (fun _ h => ⟨fun c => ⟨(h.1 c).1, (h.1 c).2.1⟩, h.2⟩)
    (run_main (F := Bits) m ρ)

/-- The reference over the reals: its run, read at the two arguments; it has no counter to leave raised. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- Over the reals, from equal arguments, the kernel and the reference leave the same result: `MS` of the arguments. -/
theorem same_value : Cert.algebraic_KernelIdeal_ReferenceIdeal := fun m ρ m' ρ' _ hargs =>
  ⟨fun c => R₁ m c,
    (θ_run Cert.KernelIdeal.defs _ _).mono (fun _ h c => ⟨(h.1 c).2.2, (h.1 c).1, (h.1 c).2.1⟩)
      (run_main (F := Ideal) m ρ),
    (θ_run Cert.ReferenceIdeal.defs _ _).mono
      (fun _ h c => ⟨(h c).1.trans ((Ref.result_eq m' c).trans (congrArg₂ MS (hargs c).1 (hargs c).2)), (h c).2⟩)
      (Cert.ReferenceIdeal.Value.run m' ρ')⟩

end Cert.Proof.Sc

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.T.Frames
public import Idealize.ShloMosaic.Adequacy
public import Idealize.ShloMosaic.Init

@[expose] public section

noncomputable section

namespace Cert.Proof

open Idealize.ShloMosaic Idealize.SL.Sem Cert.Kernel

/-- The three frames, the (empty) list of rewrites, and the equality of values over the reals. -/
theorem claim : Cert.Claim := ⟨Cert.Kernel.Gen.facts, Cert.KernelIdeal.Gen.facts, Cert.ReferenceIdeal.Gen.facts,
  Sc.frame_bits, Sc.frame_ideal, Sc.frame_reference, trivial, Sc.same_value⟩

end Cert.Proof

end
